-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = Layout.block ⟨2, ![1024, 512]⟩ ⟨2, ![1024, 2048]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨1, ![512]⟩ ⟨1, ![2048]⟩ 0 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨1, ![512]⟩ ⟨1, ![2048]⟩ 0 4 c (m' (((0 : Dev Cert.ReferenceIdeal.nD).tc : Thread Cert.ReferenceIdeal.nD Cert.ReferenceIdeal.τ).loc Cert.ReferenceIdeal.main_arg2))) →
    ∃ (v0 : Buf (Elt Ideal) (((0 : Dev Cert.ReferenceIdeal.nD).tc : Thread Cert.ReferenceIdeal.nD Cert.ReferenceIdeal.τ).loc Cert.ReferenceIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = Layout.block ⟨2, ![1024, 512]⟩ ⟨2, ![1024, 2048]⟩ 1 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v21) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S1024x512 : Shape := ⟨2, ![1024, 512]⟩
abbrev S512 : Shape := ⟨1, ![512]⟩
abbrev S_ : Shape := ⟨0, ![]⟩

class Facts : Prop where
  bitsLt_bf16_f32 : FTy.bits .bf16 < FTy.bits .f32
  bcast_S_S1024x512 : S_.BroadcastsInDim S1024x512 (![] : Fin 0 → Fin S1024x512.rank)

variable [Facts]

def fn {F : FTy → Type} [FloatOps F] (main_arg0 : FVec F S1024x512 .bf16) (main_arg1 : FVec F S512 .bf16) (main_arg2 : FVec F S512 .bf16) : IVec S1024x512 1 :=
  let main_v0 : FVec F S1024x512 .f32 := (extf .f32 · bitsLt_bf16_f32) main_arg0
  let main_v1 : FVec F S1024x512 .f32 := Host.absf main_v0
  let main_cst : FVec F S_ .f32 := constant S_ .f32 0x7F800000#32
  let main_v2 : FVec F S1024x512 .f32 := broadcastInDim S1024x512 ![] bcast_S_S1024x512 main_cst
  let main_v3 : IVec S1024x512 1 := cmpf .olt main_v1 main_v2
  main_v3
-- ==== Pre_finite_ReferenceIdeal.lean ====
abbrev S1024x2048 : Shape := ⟨2, ![1024, 2048]⟩
abbrev S2048 : Shape := ⟨1, ![2048]⟩
abbrev S_ : Shape := ⟨0, ![]⟩

class Facts : Prop where
  bitsLt_bf16_f32 : FTy.bits .bf16 < FTy.bits .f32
  bcast_S_S1024x2048 : S_.BroadcastsInDim S1024x2048 (![] : Fin 0 → Fin S1024x2048.rank)

variable [Facts]

def fn {F : FTy → Type} [FloatOps F] (main_arg0 : FVec F S1024x2048 .bf16) (main_arg1 : FVec F S2048 .bf16) (main_arg2 : FVec F S2048 .bf16) : IVec S1024x2048 1 :=
  let main_v0 : FVec F S1024x2048 .f32 := (extf .f32 · bitsLt_bf16_f32) main_arg0
  let main_v1 : FVec F S1024x2048 .f32 := Host.absf main_v0
  let main_cst : FVec F S_ .f32 := constant S_ .f32 0x7F800000#32
  let main_v2 : FVec F S1024x2048 .f32 := broadcastInDim S1024x2048 ![] bcast_S_S1024x2048 main_cst
  let main_v3 : IVec S1024x2048 1 := cmpf .olt main_v1 main_v2
  main_v3
-- ==== Kernel.lean ====
abbrev S1024x512 : Shape := ⟨2, ![1024, 512]⟩
abbrev S512 : Shape := ⟨1, ![512]⟩
abbrev S1x512 : Shape := ⟨2, ![1, 512]⟩
abbrev S2x512 : Shape := ⟨2, ![2, 512]⟩
abbrev S2x4x2x512 : Shape := ⟨4, ![2, 4, 2, 512]⟩
abbrev S2x3 : Shape := ⟨2, ![2, 3]⟩
abbrev S2x4 : Shape := ⟨2, ![2, 4]⟩
abbrev S_ : Shape := ⟨0, ![]⟩
abbrev S512x512 : Shape := ⟨2, ![512, 512]⟩
abbrev S1x2x512 : Shape := ⟨3, ![1, 2, 512]⟩
abbrev S1x4x2x512 : Shape := ⟨4, ![1, 4, 2, 512]⟩
abbrev S4x2x512 : Shape := ⟨3, ![4, 2, 512]⟩
abbrev S1x1 : Shape := ⟨2, ![1, 1]⟩
abbrev S1x1x2x512 : Shape := ⟨4, ![1, 1, 2, 512]⟩
abbrev S512x1 : Shape := ⟨2, ![512, 1]⟩

abbrev nBuf : Space → Nat
  | .hbm => 7
  | .vmem => 4
  | .smem => 0
  | _ => 0

abbrev bufTy : (tb : Table) → Fin (tcTables nBuf tb) → BufTy
  | .hbm, ⟨0, _⟩ => ⟨S1024x512, .bf16⟩
  | .hbm, ⟨1, _⟩ => ⟨S512, .bf16⟩
  | .hbm, ⟨2, _⟩ => ⟨S512, .bf16⟩
  | .hbm, ⟨3, _⟩ => ⟨S1x512, .bf16⟩
  | .hbm, ⟨4, _⟩ => ⟨S1x512, .bf16⟩
  | .hbm, ⟨5, _⟩ => ⟨S2x512, .bf16⟩
  | .hbm, ⟨6, _⟩ => ⟨S1024x512, .bf16⟩
  | .local _ .vmem, ⟨0, _⟩ => ⟨S1024x512, .bf16⟩
  | .local _ .vmem, ⟨1, _⟩ => ⟨S2x512, .bf16⟩
  | .local _ .vmem, ⟨2, _⟩ => ⟨S1024x512, .bf16⟩
  | .local _ .vmem, ⟨3, _⟩ => ⟨S2x4x2x512, .f32⟩
  | _, _ => ⟨S1024x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  (ofTc nBuf bufTy 1 17 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_sem0_0 : DmaSem sig := 0
abbrev cc0_sem1_0 : DmaSem sig := 1
abbrev cc0_sem2_0 : DmaSem sig := 2
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.addi v2 c1_i32_0
  let c4_i32_1 : BitVec 32 := 4#32
  let v5 : BitVec 32 := Scalar.remsi v4 c4_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v8 : BitVec 32 := Scalar.addi v2 c2_i32
  let c4_i32_4 : BitVec 32 := 4#32
  let v9 : BitVec 32 := Scalar.remsi v8 c4_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v12 : BitVec 32 := Scalar.addi v2 c3_i32
  let c4_i32_8 : BitVec 32 := 4#32
  let v13 : BitVec 32 := Scalar.remsi v12 c4_i32_8
  let c1_i32_10 : BitVec 32 := 1#32
  let v14 : BitVec 32 := Scalar.muli v13 c1_i32_10
  let v15 : BitVec 32 := Scalar.addi c0_i32_11 v14
  v15.toNat
def k0_off1 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v28 : Index := Scalar.indexCast v2
  let c0_18 : Index := 0#32
  let c0_19 : Index := 0#32
  ![v28.toNat, 0, 0]
def k0_off2 (d0 : Dev nD) : Fin 2 → Nat :=
  let c0_i32_25 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  ![0, v2.toNat]
def k0_off3 (d0 : Dev nD) : Fin 4 → Nat :=
  let c0_i32_24 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_30 : BitVec 32 := 0#32
  let c0_i32_31 : BitVec 32 := 0#32
  ![0, v2.toNat, 0, 0]
def k0_dev4 (d0 : Dev nD) : Nat :=
  let c0_i32_29 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_21 : BitVec 32 := 1#32
  let v32 : BitVec 32 := Scalar.addi v2 c1_i32_21
  let c4_i32_22 : BitVec 32 := 4#32
  let v33 : BitVec 32 := Scalar.remsi v32 c4_i32_22
  let c1_i32_28 : BitVec 32 := 1#32
  let v34 : BitVec 32 := Scalar.muli v33 c1_i32_28
  let v35 : BitVec 32 := Scalar.addi c0_i32_29 v34
  v35.toNat
def k0_dev5 (d0 : Dev nD) : Nat :=
  let c0_i32_42 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_34 : BitVec 32 := 2#32
  let v44 : BitVec 32 := Scalar.addi v2 c2_i32_34
  let c4_i32_35 : BitVec 32 := 4#32
  let v45 : BitVec 32 := Scalar.remsi v44 c4_i32_35
  let c1_i32_41 : BitVec 32 := 1#32
  let v46 : BitVec 32 := Scalar.muli v45 c1_i32_41
  let v47 : BitVec 32 := Scalar.addi c0_i32_42 v46
  v47.toNat
def k0_dev6 (d0 : Dev nD) : Nat :=
  let c0_i32_55 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_47 : BitVec 32 := 3#32
  let v56 : BitVec 32 := Scalar.addi v2 c3_i32_47
  let c4_i32_48 : BitVec 32 := 4#32
  let v57 : BitVec 32 := Scalar.remsi v56 c4_i32_48
  let c1_i32_54 : BitVec 32 := 1#32
  let v58 : BitVec 32 := Scalar.muli v57 c1_i32_54
  let v59 : BitVec 32 := Scalar.addi c0_i32_55 v58
  v59.toNat
def k0_off4 (d0 : Dev nD) : Fin 2 → Nat :=
  let c1_i32_73 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  ![1, v2.toNat]
def k0_off5 (d0 : Dev nD) : Fin 4 → Nat :=
  let c1_i32_72 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_78 : BitVec 32 := 0#32
  let c0_i32_79 : BitVec 32 := 0#32
  ![1, v2.toNat, 0, 0]
def k0_dev7 (d0 : Dev nD) : Nat :=
  let c0_i32_77 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_69 : BitVec 32 := 1#32
  let v84 : BitVec 32 := Scalar.addi v2 c1_i32_69
  let c4_i32_70 : BitVec 32 := 4#32
  let v85 : BitVec 32 := Scalar.remsi v84 c4_i32_70
  let c1_i32_76 : BitVec 32 := 1#32
  let v86 : BitVec 32 := Scalar.muli v85 c1_i32_76
  let v87 : BitVec 32 := Scalar.addi c0_i32_77 v86
  v87.toNat
def k0_dev8 (d0 : Dev nD) : Nat :=
  let c0_i32_90 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_82 : BitVec 32 := 2#32
  let v96 : BitVec 32 := Scalar.addi v2 c2_i32_82
  let c4_i32_83 : BitVec 32 := 4#32
  let v97 : BitVec 32 := Scalar.remsi v96 c4_i32_83
  let c1_i32_89 : BitVec 32 := 1#32
  let v98 : BitVec 32 := Scalar.muli v97 c1_i32_89
  let v99 : BitVec 32 := Scalar.addi c0_i32_90 v98
  v99.toNat
def k0_dev9 (d0 : Dev nD) : Nat :=
  let c0_i32_103 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_95 : BitVec 32 := 3#32
  let v108 : BitVec 32 := Scalar.addi v2 c3_i32_95
  let c4_i32_96 : BitVec 32 := 4#32
  let v109 : BitVec 32 := Scalar.remsi v108 c4_i32_96
  let c1_i32_102 : BitVec 32 := 1#32
  let v110 : BitVec 32 := Scalar.muli v109 c1_i32_102
  let v111 : BitVec 32 := Scalar.addi c0_i32_103 v110
  v111.toNat
def k0_off6 (d0 : Dev nD) (c1_i32_111 : BitVec 32) : Fin 2 → Nat :=
  let c0_i32_115 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v124 : BitVec 32 := Scalar.addi v2 c1_i32_111
  let c4_i32_112 : BitVec 32 := 4#32
  let v125 : BitVec 32 := Scalar.remsi v124 c4_i32_112
  ![0, v125.toNat]
def k0_off7 (d0 : Dev nD) (c1_i32_111 : BitVec 32) : Fin 4 → Nat :=
  let c0_i32_114 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v124 : BitVec 32 := Scalar.addi v2 c1_i32_111
  let c4_i32_112 : BitVec 32 := 4#32
  let v125 : BitVec 32 := Scalar.remsi v124 c4_i32_112
  let c0_i32_120 : BitVec 32 := 0#32
  let c0_i32_121 : BitVec 32 := 0#32
  ![0, v125.toNat, 0, 0]
def k0_off8 (d0 : Dev nD) (c1_i32_162 : BitVec 32) : Fin 2 → Nat :=
  let c1_i32_166 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v187 : BitVec 32 := Scalar.addi v2 c1_i32_162
  let c4_i32_163 : BitVec 32 := 4#32
  let v188 : BitVec 32 := Scalar.remsi v187 c4_i32_163
  ![1, v188.toNat]
def k0_off9 (d0 : Dev nD) (c1_i32_162 : BitVec 32) : Fin 4 → Nat :=
  let c1_i32_165 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v187 : BitVec 32 := Scalar.addi v2 c1_i32_162
  let c4_i32_163 : BitVec 32 := 4#32
  let v188 : BitVec 32 := Scalar.remsi v187 c4_i32_163
  let c0_i32_171 : BitVec 32 := 0#32
  let c0_i32_172 : BitVec 32 := 0#32
  ![1, v188.toNat, 0, 0]
abbrev stage0_0 : Fin 1 → Memref sig .tc .vmem S1024x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S1024x2048 : Shape := ⟨2, ![1024, 2048]⟩
abbrev S2048 : Shape := ⟨1, ![2048]⟩
abbrev S_ : Shape := ⟨0, ![]⟩
abbrev S1024 : Shape := ⟨1, ![1024]⟩
abbrev S1024x1 : Shape := ⟨2, ![1024, 1]⟩
abbrev S1x2048 : Shape := ⟨2, ![1, 2048]⟩

abbrev nBuf : Space → Nat
  | .hbm => 51
  | .vmem => 0
  | .smem => 0
  | _ => 0

abbrev bufTy : (tb : Table) → Fin (tcTables nBuf tb) → BufTy
  | .hbm, ⟨0, _⟩ => ⟨S1024x2048, .bf16⟩
  | .hbm, ⟨1, _⟩ => ⟨S2048, .bf16⟩
  | .hbm, ⟨2, _⟩ => ⟨S2048, .bf16⟩
  | .hbm, ⟨3, _⟩ => ⟨S1024x2048, .f32⟩
  | .hbm, ⟨4, _⟩ => ⟨S2048, .f32⟩
  | .hbm, ⟨5, _⟩ => ⟨S2048, .f32⟩
  | .hbm, ⟨6, _⟩ => ⟨S_, .f32⟩
  | .hbm, ⟨7, _⟩ => ⟨S1024, .f32⟩
  | .hbm, ⟨8, _⟩ => ⟨S1024x1, .f32⟩
  | .hbm, ⟨9, _⟩ => ⟨S_, .f32⟩
  | .hbm, ⟨10, _⟩ => ⟨S1024x1, .f32⟩
  | .hbm, ⟨11, _⟩ => ⟨S1024x1, .f32⟩
  | .hbm, ⟨12, _⟩ => ⟨S_, .i32⟩
  | .hbm, ⟨13, _⟩ => ⟨S_, .f32⟩
  | .hbm, ⟨14, _⟩ => ⟨S1024, .f32⟩
  | .hbm, ⟨15, _⟩ => ⟨S1024x1, .f32⟩
  | .hbm, ⟨16, _⟩ => ⟨S_, .f32⟩
  | .hbm, ⟨17, _⟩ => ⟨S1024x1, .f32⟩
  | .hbm, ⟨18, _⟩ => ⟨S1024x1, .f32⟩
  | .hbm, ⟨19, _⟩ => ⟨S1024x2048, .f32⟩
  | .hbm, ⟨20, _⟩ => ⟨S1024x2048, .f32⟩
  | .hbm, ⟨21, _⟩ => ⟨S1024x2048, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S1024, .f32⟩
  | .hbm, ⟨27, _⟩ => ⟨S1024x1, .f32⟩
  | .hbm, ⟨28, _⟩ => ⟨S1024x1, .f32⟩
  | .hbm, ⟨29, _⟩ => ⟨S1024x1, .f32⟩
  | .hbm, ⟨30, _⟩ => ⟨S_, .f32⟩
  | .hbm, ⟨31, _⟩ => ⟨S_, .i1⟩
  | .hbm, ⟨32, _⟩ => ⟨S_, .f32⟩
  | .hbm, ⟨33, _⟩ => ⟨S_, .f32⟩
  | .hbm, ⟨34, _⟩ => ⟨S1024x1, .f32⟩
  | .hbm, ⟨35, _⟩ => ⟨S1024x1, .f32⟩
  | .hbm, ⟨36, _⟩ => ⟨S1024x2048, .f32⟩
  | .hbm, ⟨37, _⟩ => ⟨S1024x2048, .f32⟩
  | .hbm, ⟨38, _⟩ => ⟨S1x2048, .f32⟩
  | .hbm, ⟨39, _⟩ => ⟨S1024x2048, .f32⟩
  | .hbm, ⟨40, _⟩ => ⟨S1024x2048, .f32⟩
  | .hbm, ⟨41, _⟩ => ⟨S_, .f32⟩
  | .hbm, ⟨42, _⟩ => ⟨S1024x1, .f32⟩
  | .hbm, ⟨43, _⟩ => ⟨S1024x1, .f32⟩
  | .hbm, ⟨44, _⟩ => ⟨S1024x1, .f32⟩
  | .hbm, ⟨45, _⟩ => ⟨S1024x2048, .f32⟩
  | .hbm, ⟨46, _⟩ => ⟨S1024x2048, .f32⟩
  | .hbm, ⟨47, _⟩ => ⟨S1x2048, .f32⟩
  | .hbm, ⟨48, _⟩ => ⟨S1024x2048, .f32⟩
  | .hbm, ⟨49, _⟩ => ⟨S1024x2048, .f32⟩
  | .hbm, ⟨50, _⟩ => ⟨S1024x2048, .bf16⟩
  | _, _ => ⟨S1024x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_c : Ref sig .tc := ⟨.hbm, 12, rfl⟩
abbrev main_call0_cst : Ref sig .tc := ⟨.hbm, 13, rfl⟩
abbrev main_call0_v0 : Ref sig .tc := ⟨.hbm, 14, rfl⟩
abbrev main_call0_v1 : Ref sig .tc := ⟨.hbm, 15, rfl⟩
abbrev main_call0_cst_0 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_v6 : Ref sig .tc := ⟨.hbm, 21, rfl⟩
abbrev main_call0_v7 : Ref sig .tc := ⟨.hbm, 22, rfl⟩
abbrev main_call0_cst_1 : Ref sig .tc := ⟨.hbm, 23, rfl⟩
abbrev main_call0_v8 : Ref sig .tc := ⟨.hbm, 24, rfl⟩
abbrev main_call0_cst_2 : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_v12 : Ref sig .tc := ⟨.hbm, 29, rfl⟩
abbrev main_call0_cst_3 : Ref sig .tc := ⟨.hbm, 30, rfl⟩
abbrev main_call0_v13 : Ref sig .tc := ⟨.hbm, 31, rfl⟩
abbrev main_call0_cst_4 : Ref sig .tc := ⟨.hbm, 32, rfl⟩
abbrev main_call0_call0_v0 : Ref sig .tc := ⟨.hbm, 33, rfl⟩
abbrev main_call0_call0_v1 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_cst_1 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩

abbrev nD : Nat := 1
abbrev τ : Topo := Topo.v7x

variable {F : FTy → Type} [FloatOps F]
-- ==== Proof.Slots.lean ====
/-
  The statistics buffer of one device, cut into eight slots.

  The buffer has shape 2 x 4 x 2 x 512: chunk of rows, device, (sum, sum of squares), row of the chunk.
  Slot (ch, j) is the part with first coordinate ch and second coordinate j. A device writes its own slots
  (ch, c), its peers copy theirs into the others, and every slot is copied to the same place of another device.
  The final contents of a slot depend on the chunk and on the device it belongs to and on nothing else, so ONE
  function of the buffer's index, `stats`, describes what every slot of every device finally holds.
-/
module

public import proofs.«01_k».proof.Proof.Gen.KernelIdeal.Skeleton
public import Idealize.ShloMosaic.Lib.ValueLayout
public import Idealize.ShloMosaic.Lib.Pipeline.Value
public import Idealize.ShloMosaic.Lib.Tactic

@[expose] public section

noncomputable section

namespace Cert.KernelIdeal.Norm

open Idealize.ShloMosaic Idealize.ShloMosaic.TcCoe Idealize.SL.Sem
open Idealize.ShloMosaic.ValueIdx
open Cert.KernelIdeal.Gen

variable {F : FTy → Type} [FloatOps F]

/-- The whole statistics buffer. -/
abbrev statsM : Memref sig .tc .vmem S2x4x2x512 .f32 := Memref.whole cc0_scratch0

/-- The indices of slot (ch, j). -/
def slot (ch : Fin 2) (j : Dev nD) : Finset S2x4x2x512.Idx :=
  Finset.univ.filter fun i => (i 0).val = ch.val ∧ (i 1).val = j.val

/-- The indices of a slot are those of its chunk and device. -/
theorem mem_slot {ch : Fin 2} {j : Dev nD} {i : S2x4x2x512.Idx} : i ∈ slot ch j ↔ i 0 = ch ∧ i 1 = j := by
  simp only [slot, Finset.mem_filter, Finset.mem_univ, true_and]
  exact ⟨fun h => ⟨Fin.ext h.1, Fin.ext h.2⟩, fun h => ⟨congrArg Fin.val h.1, congrArg Fin.val h.2⟩⟩

/-- A slot is disjoint from every other slot. -/
theorem slot_disjoint {a b : Fin 2 × Dev nD} (h : a ≠ b) : Disjoint (slot a.1 a.2) (slot b.1 b.2) :=
  Finset.disjoint_left.mpr fun i hi hj => h (by
    rw [mem_slot] at hi hj
    exact Prod.ext (hi.1.symm.trans hj.1) (hi.2.symm.trans hj.2))

/-- The chunk of slots of one first coordinate. -/
def chunk (ch : Fin 2) : Finset S2x4x2x512.Idx := Finset.univ.filter fun i => (i 0).val = ch.val

/-- The eight slots are the whole buffer. -/
theorem slots_cover : (Finset.univ : Finset (Fin 2 × Dev nD)).biUnion (fun a => slot a.1 a.2) = Finset.univ := by
  ext i
  simp only [Finset.mem_biUnion, Finset.mem_univ, true_and, iff_true]
  exact ⟨(i 0, i 1), mem_slot.mpr ⟨rfl, rfl⟩⟩

/-- The four slots of a chunk are the chunk. -/
theorem chunk_cover (ch : Fin 2) : (Finset.univ : Finset (Dev nD)).biUnion (slot ch) = chunk ch := by
  ext i
  simp only [Finset.mem_biUnion, Finset.mem_univ, true_and, mem_slot, chunk, Finset.mem_filter]
  exact ⟨fun ⟨_, h, _⟩ => congrArg Fin.val h, fun h => ⟨i 1, Fin.ext h, rfl⟩⟩

/-! ## A slot as the copies name it -/

/-- The view a copy's source and destination use: one slot with its two unit axes dropped. -/
abbrev slotAt (off : Fin 4 → ℕ) (h : ∀ a, off a + S1x1x2x512.size a ≤ S2x4x2x512.size a) : Memref sig .tc .vmem S2x512 .f32 :=
  (statsM.slice (Rect.unit (s := S2x4x2x512) off S1x1x2x512.size h) (fun _ => rfl)).squeeze S2x512 squeezes_S1x1x2x512_S2x512

/-- The view that a copy takes is its slot. -/
theorem set_slotAt (ch : Fin 2) (j : Dev nD) (h) : (slotAt ![ch.val, j.val, 0, 0] h).view.set = slot ch j := by
  rw [Memref.set_view_squeeze]
  show ((View.whole cc0_scratch0).slice _).set = _
  rw [View.set_slice_whole]
  ext i
  rw [Rect.mem_set_unit, mem_slot]
  constructor
  · intro hi
    have h0 := hi 0
    have h1 := hi 1
    simp [S1x1x2x512] at h0 h1
    exact ⟨Fin.ext (by omega), Fin.ext (by omega)⟩
  · rintro ⟨h0, h1⟩ a
    fin_cases a <;> simp_all [S1x1x2x512, S2x4x2x512]
    · exact (i 2).isLt
    · exact (i 3).isLt

/-- Reading a buffer through a slot's view and writing what was read through the same view of another buffer
    makes the two agree on the slot. -/
theorem landed_slot (off : Fin 4 → ℕ) (h) (f g : BufTy.Contents (Elt F) (slotAt off h).view.ty) :
    ∀ i ∈ (slotAt off h).view.set,
      (slotAt off h).view.write (Elt F) g ((slotAt off h).view.read (Elt F) f) Finset.univ i = f i := by
  intro i hi
  obtain ⟨y, rfl⟩ := View.exists_emb_of_mem_set _ hi
  rw [View.write_emb_of_mem _ _ (Finset.mem_univ y)]
  rfl

/-! ## A slot as the store names it -/

/-- A chunk of the buffer with its unit axis dropped: what a device's own statistics are stored through. -/
abbrev chunkAt (off : Fin 4 → ℕ) (h : ∀ a, off a + S1x4x2x512.size a ≤ S2x4x2x512.size a) : Memref sig .tc .vmem S4x2x512 .f32 :=
  (statsM.slice (Rect.unit (s := S2x4x2x512) off S1x4x2x512.size h) (fun _ => rfl)).squeeze S4x2x512 squeezes_S1x4x2x512_S4x2x512

/-- Where a chunk's view puts an index of one device's plane of it. -/
theorem emb_chunkAt (ch : Fin 2) (h) (j : Dev nD) (hr) (y : S1x2x512.Idx) :
    ((chunkAt ![ch.val, 0, 0, 0] h).access (Rect.unit (s := S4x2x512) ![j.val, 0, 0] S1x2x512.size hr)).emb y
      = (ix4 ch j (y 1) (y 2) : S2x4x2x512.Idx) := by
  show (Rect.unit (s := S2x4x2x512) ![ch.val, 0, 0, 0] S1x4x2x512.size h).emb
    (Shape.reshapeEquiv _ ((Rect.unit (s := S4x2x512) ![j.val, 0, 0] S1x2x512.size hr).emb y)) = _
  have e : (Rect.unit (s := S4x2x512) ![j.val, 0, 0] S1x2x512.size hr).emb y = (ix3 j (y 1) (y 2) : S4x2x512.Idx) := by
    funext a
    apply Fin.ext
    have h0 := (y 0).isLt
    fin_cases a
    · show j.val + 1 * (y 0).val = j.val
      have : (y 0).val < 1 := h0
      omega
    · show 0 + 1 * (y 1).val = (y 1).val
      omega
    · show 0 + 1 * (y 2).val = (y 2).val
      omega
  rw [e]
  refine (congrArg (Rect.unit (s := S2x4x2x512) ![ch.val, 0, 0, 0] S1x4x2x512.size h).emb
    (reshapeEquiv_ix3_1abc _ j (y 1) (y 2))).trans ?_
  funext a
  apply Fin.ext
  fin_cases a
  · show ch.val + 1 * 0 = ch.val
    omega
  · show 0 + 1 * j.val = j.val
    omega
  · show 0 + 1 * (y 1).val = (y 1).val
    omega
  · show 0 + 1 * (y 2).val = (y 2).val
    omega

/-- The elements one device's plane of a chunk covers are its slot. -/
theorem set_chunkAt (ch : Fin 2) (h) (j : Dev nD) (hr) :
    ((chunkAt ![ch.val, 0, 0, 0] h).access (Rect.unit (s := S4x2x512) ![j.val, 0, 0] S1x2x512.size hr)).set = slot ch j := by
  ext i
  constructor
  · intro hi
    obtain ⟨y, rfl⟩ := View.exists_emb_of_mem_set _ hi
    rw [emb_chunkAt]
    exact mem_slot.mpr ⟨rfl, rfl⟩
  · intro hi
    rw [mem_slot] at hi
    refine Finset.mem_map.mpr ⟨(ix3 0 (i 2) (i 3) : S1x2x512.Idx), Finset.mem_univ _, ?_⟩
    refine (emb_chunkAt ch h j hr _).trans ?_
    funext a
    fin_cases a
    · exact hi.1.symm
    · exact hi.2.symm
    · rfl
    · rfl

/-! ## What the slots finally hold -/

/-- The rows of one chunk of a device's block of the input. -/
def rows (ch : Fin 2) (X : S1024x512.Idx → Elt F .bf16) : Vec F S512x512 .bf16 :=
  fun y => X (ix2 ⟨512 * ch.val + (y 0).val, by have h : (y 0).val < 512 := (y 0).isLt; have := ch.isLt; omega⟩ (y 1))

/-- The statistics buffer once every copy has landed, the same on every device: slot (ch, j) holds the row sums
    and the row sums of squares of chunk ch of device j's block. -/
def stats (X : Dev nD → S1024x512.Idx → Elt F .bf16) : S2x4x2x512.Idx → Elt F .f32 :=
  fun i => k0_pay2 (k0_pay1 (rows (i 0) (X (i 1)))) (ix3 0 (i 2) (i 3))

/-- Storing a device's own statistics of a chunk makes its buffer agree with `stats` on its slot. -/
theorem stored_slot (X : Dev nD → S1024x512.Idx → Elt F .bf16) (ch : Fin 2) (h) (j : Dev nD) (hr)
    (f : S2x4x2x512.Idx → Elt F .f32) :
    ∀ i ∈ slot ch j,
      ((chunkAt ![ch.val, 0, 0, 0] h).access (Rect.unit (s := S4x2x512) ![j.val, 0, 0] S1x2x512.size hr)).write (Elt F) f
        (k0_pay2 (k0_pay1 (rows ch (X j)))) Finset.univ i = stats X i := by
  intro i hi
  rw [← set_chunkAt ch h j hr] at hi
  obtain ⟨y, rfl⟩ := View.exists_emb_of_mem_set _ hi
  rw [View.write_emb_of_mem _ _ (Finset.mem_univ y), emb_chunkAt]
  show k0_pay2 (k0_pay1 (rows ch (X j))) y = k0_pay2 (k0_pay1 (rows ch (X j))) (ix3 0 (y 1) (y 2))
  congr 1
  refine (eq_ix3 y).trans ?_
  have h0 : (y 0) = (0 : Fin 1) := Fin.ext (by have : (y 0).val < 1 := (y 0).isLt; show (y 0).val = 0; omega)
  rw [h0]
  rfl

end Cert.KernelIdeal.Norm
-- ==== Proof.Protocol.lean ====
/-
  The exchange between the devices, as a schedule of duties.

  Device c talks to its three peers c + 1, c + 2, c + 3 (modulo 4), peer number k being c + k + 1.

    barrier of c        three units, one from every other device; with its unit device d hands over d's two slots
                        (0, c) and (1, c), which c's copies will overwrite, and the news that d is ready to count
                        what lands there. c waits for all three before its first copy.
    send of (c, ch, k)  one copy, paid by c's own copy of its slot (ch, c) to peer k: the lent share of the slot comes back.
    recv of (c, ch, j)  one copy, paid by device j's copy (j another device): c's slot (ch, j), now at `stats`.

  A duty is named by the device that pays it. Every cell has one round.
-/
module

public import proofs.«01_k».proof.Proof.Slots
public import Idealize.ShloMosaic.Lib.Rounds
public import Idealize.ShloMosaic.Lib.Pipeline.Regions
public import Idealize.ShloMosaic.Lib.Pipeline.Kit
public import Idealize.ShloMosaic.Lib.Pipeline.RegionTalk
public import Idealize.ShloMosaic.Harness.Basic

@[expose] public section

noncomputable section

namespace Cert.KernelIdeal.Norm

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)
open Cert.KernelIdeal.Gen

variable {F : FTy → Type} [FloatOps F]

/-! ## The resources: the pipeline's own, and this exchange's -/

abbrev UU : Type := UR sig nD τ × URounds (GSem nD τ sig) (Dev nD)

local notation "𝕄" => MT nD τ sig Unit (Elt F) ℕ UU ℕ

abbrev EP : Emb (UR sig nD τ) (MT nD τ sig Unit (Elt F) ℕ UU ℕ) := embL
abbrev ER : Emb (URounds (GSem nD τ sig) (Dev nD)) (MT nD τ sig Unit (Elt F) ℕ UU ℕ) := embR

/-! ## Peers, semaphores and cells -/

/-- Peer number k of device c. -/
def peer (c : Dev nD) (k : Fin 3) : Dev nD := ⟨(c.val + k.val + 1) % 4, Nat.mod_lt _ (by decide)⟩

/-- No device is its own peer. -/
theorem peer_ne : ∀ (c : Dev nD) (k : Fin 3), peer c k ≠ c := by decide

abbrev barS : Sem sig := sig.barrier 0 rfl
/-- The semaphore that counts what copy k of chunk ch has sent, -/
def sendS (ch : Fin 2) (k : Fin 3) : DmaSem sig := ⟨3 + 3 * ch.val + k.val, by
  show _ < 17
  have := ch.isLt; have := k.isLt; omega⟩
/-- and the one that counts what has arrived from device j. -/
def recvS (ch : Fin 2) (j : Dev nD) : DmaSem sig := ⟨9 + 4 * ch.val + j.val, by
  show _ < 17
  have := ch.isLt; have h : j.val < 4 := j.isLt; omega⟩

abbrev barCell (c : Dev nD) : GSem nD τ sig := ((c : Thread nD τ), .reg barS)
abbrev sendCell (c : Dev nD) (ch : Fin 2) (k : Fin 3) : GSem nD τ sig := ((c : Thread nD τ), .dma (sendS ch k))
abbrev recvCell (c : Dev nD) (ch : Fin 2) (j : Dev nD) : GSem nD τ sig := ((c : Thread nD τ), .dma (recvS ch j))

/-- A copy's semaphore is not the barrier. -/
theorem dma_ne_bar (s : DmaSem sig) : (SemLoc.dma s : SemLoc sig) ≠ .reg barS := fun h => by cases h

/-! ## Points-tos of slots -/

/-- Share q of device c's slot (ch, j), at f. -/
def sl (c : Dev nD) (ch : Fin 2) (j : Dev nD) (q : PosShare TreeShare) (f : S2x4x2x512.Idx → Elt F .f32) : sProp 𝕄 :=
  (statsM.view.loc (c : Thread nD τ)) ↦[slot ch j]{q} f

/-- The same through the view a copy uses. -/
theorem sl_view (c : Dev nD) (ch : Fin 2) (j : Dev nD) (q : PosShare TreeShare) (h) (f : S2x4x2x512.Idx → Elt F .f32) :
    ((slotAt ![ch.val, j.val, 0, 0] h).view.loc (c : Thread nD τ) ↦[(slotAt ![ch.val, j.val, 0, 0] h).view.set]{q} f : sProp 𝕄)
      = sl c ch j q f :=
  congrArg (fun I : Finset S2x4x2x512.Idx => (statsM.view.loc (c : Thread nD τ) ↦[I]{q} f : sProp 𝕄)) (set_slotAt ch j h)

/-- The part of a slot lent to copy k, and the part kept. -/
def lent : Fin 3 → PosShare TreeShare
  | 0 => fullShare.left.left
  | 1 => fullShare.left.right
  | 2 => fullShare.right.left
/-- The share of its own slot that a device keeps. -/
def kept : PosShare TreeShare := fullShare.right.right

/-- A slot is its kept part and the three lent parts. -/
theorem sl_shares (c : Dev nD) (ch : Fin 2) (j : Dev nD) (f : S2x4x2x512.Idx → Elt F .f32) :
    (sl c ch j fullShare f : sProp 𝕄)
      ⊣⊢ iprop((sl c ch j (lent 0) f ∗ sl c ch j (lent 1) f) ∗ sl c ch j (lent 2) f ∗ sl c ch j kept f) := by
  unfold sl lent kept
  refine (pointsTo_share (PosShare.mem_left_op_right fullShare)).trans ?_
  exact sep_congr (pointsTo_share (PosShare.mem_left_op_right _)) (pointsTo_share (PosShare.mem_left_op_right _))

/-- The units a copy of one slot raises its semaphores by. -/
def N : ℕ := (slotAt ![0, 0, 0, 0] (by decide)).view.dmaCredit
/-- There is at least one. -/
theorem N_pos : 0 < N := View.dmaCredit_pos _ (by decide)
/-- Every slot credits the same number of units. -/
theorem credit_slotAt (off h) : (slotAt off h).view.dmaCredit = N := rfl

/-! ## The schedule -/

variable (X : Dev nD → S1024x512.Idx → Elt F .bf16)

/-- What device d hands device c with its barrier unit. -/
def barPay (c d : Dev nD) : sProp 𝕄 :=
  iprop(((∃ f, sl d 0 c fullShare f) ∗ ∃ f, sl d 1 c fullShare f) ∗ reached ER (recvCell d 0 c) 0 ∗ reached ER (recvCell d 1 c) 0)
/-- What device j's copy hands device c. -/
def recvPay (c : Dev nD) (ch : Fin 2) (j : Dev nD) : sProp 𝕄 := sl c ch j fullShare (stats X)
/-- What device c's copy to peer k hands back. -/
def sendPay (c : Dev nD) (ch : Fin 2) (k : Fin 3) : sProp 𝕄 := sl c ch c (lent k) (stats X)

/-- Device d owes cell g a duty. -/
def Pays (g : GSem nD τ sig) (d : Dev nD) : Prop :=
  g.1.2 = .tc ∧ ((g.2 = .reg barS ∧ d ≠ g.1.1) ∨ (∃ ch k, g.2 = .dma (sendS ch k) ∧ d = g.1.1)
    ∨ ∃ ch, g.2 = .dma (recvS ch d) ∧ d ≠ g.1.1)

instance (g : GSem nD τ sig) (d : Dev nD) : Decidable (Pays g d) := by unfold Pays; infer_instance

/-- The chunk and peer of a send semaphore, the chunk of a receive semaphore, from its number. -/
def sendIx (s : DmaSem sig) : Fin 2 × Fin 3 := (⟨(s.val - 3) / 3 % 2, Nat.mod_lt _ (by decide)⟩, ⟨(s.val - 3) % 3, Nat.mod_lt _ (by decide)⟩)
/-- The chunk that a receive semaphore is for. -/
def recvIx (s : DmaSem sig) : Fin 2 := ⟨(s.val - 9) / 4 % 2, Nat.mod_lt _ (by decide)⟩

/-- The chunk and copy of a send semaphore are read back from its number, -/
theorem sendIx_sendS : ∀ (ch : Fin 2) (k : Fin 3), sendIx (sendS ch k) = (ch, k) := by decide
/-- and so is the chunk of a receive semaphore. -/
theorem recvIx_recvS : ∀ (ch : Fin 2) (j : Dev nD), recvIx (recvS ch j) = ch := by decide
/-- Send semaphores come before number 9, -/
theorem sendS_lt : ∀ (ch : Fin 2) (k : Fin 3), (sendS ch k).val < 9 := by decide
/-- receive semaphores from there on. -/
theorem recvS_ge : ∀ (ch : Fin 2) (j : Dev nD), ¬ (recvS ch j).val < 9 := by decide

/-- What device d hands over with its units on a semaphore of device c. -/
def pay (c d : Dev nD) : SemLoc sig → sProp 𝕄
  | .reg _ => barPay c d
  | .dma s => if s.val < 9 then sendPay X c (sendIx s).1 (sendIx s).2 else recvPay X c (recvIx s) d

/-- The exchange. -/
def exch : Rounds.Schedule (GSem nD τ sig) (Dev nD) 𝕄 where
  duties g r := if r = 0 then Finset.univ.filter (Pays g) else ∅
  unitless _ := False
  amount g _ _ := if g.2 = .reg barS then 1 else N
  payload g _ d := pay X g.1.1 d g.2
  amount_pos g _ _ _ := by
    split
    · exact Nat.one_pos
    · exact N_pos

instance exch_storable (g : GSem nD τ sig) (r : ℕ) (d : Dev nD) :
    BI.Storable (upEmb : UEmb _ 𝕄) ((exch X).payload g r d) := by
  show BI.Storable upEmb (pay X g.1.1 d g.2)
  unfold pay
  split
  · unfold barPay sl; infer_instance
  · split
    · unfold sendPay sl; infer_instance
    · unfold recvPay sl; infer_instance

/-- No cell has a duty after its first round. -/
theorem duties_later (g : GSem nD τ sig) : ∀ r, 0 + 1 ≤ r → (exch X).duties g r = ∅ := fun r hr => by
  dsimp only [exch]
  exact if_neg (by omega)

section Facts

variable (c : Dev nD) (ch : Fin 2) (k : Fin 3) (j : Dev nD)

/-- Every other device signals c's barrier, -/
theorem pays_bar : ∀ (c d : Dev nD), d ≠ c → Pays (barCell c) d := by decide
/-- c itself credits its send cells, -/
theorem pays_send : ∀ (c : Dev nD) (ch : Fin 2) (k : Fin 3), Pays (sendCell c ch k) c := by decide
/-- and device j credits the receive cell that c keeps for it. -/
theorem pays_recv : ∀ (c : Dev nD) (ch : Fin 2) (j : Dev nD), j ≠ c → Pays (recvCell c ch j) j := by decide
/-- The payers of c's barrier are its three peers, -/
theorem paid_bar : ∀ c : Dev nD, Finset.univ.filter (Pays (barCell c)) = {peer c 0, peer c 1, peer c 2} := by decide
/-- the payer of a send cell is c, -/
theorem paid_send : ∀ (c : Dev nD) (ch : Fin 2) (k : Fin 3), Finset.univ.filter (Pays (sendCell c ch k)) = {c} := by decide
/-- the payer of a receive cell is the peer that it is kept for. -/
theorem paid_recv : ∀ (c : Dev nD) (ch : Fin 2) (k : Fin 3),
    Finset.univ.filter (Pays (recvCell c ch (peer c k))) = {peer c k} := by decide
/-- The three peers of a device are three devices. -/
theorem peers_distinct : ∀ c : Dev nD, peer c 0 ∉ ({peer c 1, peer c 2} : Finset (Dev nD)) ∧ peer c 1 ∉ ({peer c 2} : Finset (Dev nD)) := by
  decide

/-- A payer has a duty in round 0, -/
theorem mem_duties {g : GSem nD τ sig} {d : Dev nD} (h : Pays g d) : d ∈ (exch X).duties g 0 := by
  show d ∈ (if (0 : ℕ) = 0 then Finset.univ.filter (Pays g) else ∅)
  rw [if_pos rfl]
  exact Finset.mem_filter.mpr ⟨Finset.mem_univ _, h⟩

/-- and the duties of round 0 are the payers'. -/
theorem duties_zero (g : GSem nD τ sig) : (exch X).duties g 0 = Finset.univ.filter (Pays g) := by
  dsimp only [exch]; exact if_pos rfl

/-- A duty on a barrier is one unit, -/
theorem amount_bar (d : Dev nD) : (exch X).amount (barCell c) 0 d = 1 := by
  dsimp only [exch]; exact if_pos rfl
/-- one on a copy's semaphore is a slot's units. -/
theorem amount_dma (s : DmaSem sig) (d : Dev nD) : (exch X).amount ((c : Thread nD τ), .dma s) 0 d = N := by
  dsimp only [exch]; exact if_neg (dma_ne_bar s)

/-- A barrier expects three units, -/
theorem expect_bar : (exch X).expect (barCell c) 0 = 3 := by
  unfold Schedule.expect Schedule.amountOf
  rw [duties_zero, paid_bar, Finset.sum_insert (peers_distinct c).1, Finset.sum_insert (peers_distinct c).2, Finset.sum_singleton]
  simp only [amount_bar]
  decide
/-- a send cell one slot, -/
theorem expect_send : (exch X).expect (sendCell c ch k) 0 = N := by
  unfold Schedule.expect Schedule.amountOf
  rw [duties_zero, paid_send, Finset.sum_singleton, amount_dma]
/-- a receive cell one slot. -/
theorem expect_recv : (exch X).expect (recvCell c ch (peer c k)) 0 = N := by
  unfold Schedule.expect Schedule.amountOf
  rw [duties_zero, paid_recv, Finset.sum_singleton, amount_dma]

/-- What comes with a unit on a barrier, -/
theorem payload_bar (d : Dev nD) : (exch X).payload (barCell c) 0 d = barPay c d := rfl
/-- on a send cell, -/
theorem payload_send (d : Dev nD) : (exch X).payload (sendCell c ch k) 0 d = sendPay X c ch k := by
  show (if (sendS ch k).val < 9 then sendPay X c (sendIx (sendS ch k)).1 (sendIx (sendS ch k)).2 else _) = _
  rw [if_pos (sendS_lt ch k), sendIx_sendS]
/-- on a receive cell. -/
theorem payload_recv (d : Dev nD) : (exch X).payload (recvCell c ch j) 0 d = recvPay X c ch d := by
  show (if (recvS ch j).val < 9 then _ else recvPay X c (recvIx (recvS ch j)) d) = _
  rw [if_neg (recvS_ge ch j), recvIx_recvS]

/-- What a full wait on the barrier gives: the three peers' payloads; -/
theorem rest_bar : bigSep ((exch X).duties (barCell c) 0 \ ∅) (fun d => (exch X).payload (barCell c) 0 d)
    = iprop(barPay c (peer c 0) ∗ barPay c (peer c 1) ∗ barPay c (peer c 2)) := by
  rw [Finset.sdiff_empty, duties_zero, paid_bar, bigSep_insert (peers_distinct c).1, bigSep_insert (peers_distinct c).2, bigSep_singleton]
  rfl
/-- what one on a send cell gives, -/
theorem rest_send : bigSep ((exch X).duties (sendCell c ch k) 0 \ ∅) (fun d => (exch X).payload (sendCell c ch k) 0 d)
    = sendPay X c ch k := by
  rw [Finset.sdiff_empty, duties_zero, paid_send, bigSep_singleton, payload_send]
/-- and one on a receive cell. -/
theorem rest_recv : bigSep ((exch X).duties (recvCell c ch (peer c k)) 0 \ ∅) (fun d => (exch X).payload (recvCell c ch (peer c k)) 0 d)
    = recvPay X c ch (peer c k) := by
  rw [Finset.sdiff_empty, duties_zero, paid_recv, bigSep_singleton, payload_recv]

end Facts

/-! ## What a device owes, and the order of waiting -/

/-- The credit of c's copy of chunk ch to peer k, and of its barrier signal to peer k. -/
abbrev owedCopy (c : Dev nD) (ch : Fin 2) (k : Fin 3) : CellTallies nD τ sig Unit := tallyAt (recvCell (peer c k) ch c) () N
abbrev owedBar (c : Dev nD) (k : Fin 3) : CellTallies nD τ sig Unit := tallyAt (barCell (peer c k)) () 1

/-- The six copies a device owes when it waits on its barrier, the first to be paid written last. -/
def owedCopies (c : Dev nD) : CellTallies nD τ sig Unit :=
  owedCopy c 1 2 + owedCopy c 1 1 + owedCopy c 1 0 + owedCopy c 0 2 + owedCopy c 0 1 + owedCopy c 0 0
/-- All a device owes at launch. -/
def owed₀ (c : Dev nD) : CellTallies nD τ sig Unit := owedCopies c + owedBar c 2 + owedBar c 1 + owedBar c 0

/-- The tallies of a cell: one on each cell of a device's own. -/
def L (g : GSem nD τ sig) : Finset Unit := if g.1.2 = .tc then {()} else ∅
/-- The three semaphores that stage the blocks come first, then the barriers, then the copies. -/
def lvSem : SemLoc sig → ℕ
  | .reg _ => 1
  | .dma s => if s.val < 3 then 0 else 2
/-- The level of a cell is its semaphore's. -/
def lv (g : GSem nD τ sig) (_ : Unit) : ℕ := lvSem g.2

/-- Receive cells are at the highest level. -/
theorem lv_recv : ∀ (ch : Fin 2) (j : Dev nD), lvSem (.dma (recvS ch j)) = 2 := by decide

/-- No tally elsewhere, -/
theorem L_of_ne (g : GSem nD τ sig) (h : g.1.2 ≠ .tc) : L g = ∅ := if_neg h
/-- the one tally there. -/
theorem L_tc (c : Dev nD) (s : SemLoc sig) : L ((c : Thread nD τ), s) = {()} := if_pos rfl

/-- Whatever is owed in copies is owed to a receive cell. -/
theorem owedCopies_pos {c : Dev nD} {g : GSem nD τ sig} {u : Unit} (h : 0 < owedCopies c g u) :
    ∃ (d : Dev nD) (ch : Fin 2) (j : Dev nD), g = recvCell d ch j := by
  by_contra hn
  have hz : ∀ ch k, owedCopy c ch k g u = 0 := fun ch k => by
    rw [tallyAt_apply]
    exact if_neg fun e => hn ⟨_, _, _, e.1⟩
  have : owedCopies c g u = 0 := by
    show owedCopy c 1 2 g u + owedCopy c 1 1 g u + owedCopy c 1 0 g u + owedCopy c 0 2 g u + owedCopy c 0 1 g u + owedCopy c 0 0 g u = 0
    simp only [hz]
  omega

/-- A device may wait on its barrier while it owes its six copies. -/
theorem mayWait_bar (c : Dev nD) : (levAts L lv : sProp 𝕄) ⊢ MayWait (c : Thread nD τ) (.reg barS) () (owedCopies c) := by
  refine MayOwe.of_cut (L := L) (lev := lv) 1 (fun p hp => ?_) (fun g u hg => ?_) (fun p hp => ?_) (fun g u hg => ?_)
  · rw [Finset.mem_singleton.mp hp, L_tc]; exact Finset.mem_singleton_self _
  · obtain ⟨d, ch, j, rfl⟩ := owedCopies_pos hg
    rw [L_tc]; exact Finset.mem_singleton_self _
  · rw [Finset.mem_singleton.mp hp]; exact le_of_eq rfl
  · obtain ⟨d, ch, j, rfl⟩ := owedCopies_pos hg
    exact lt_of_lt_of_eq (by decide : 1 < 2) (lv_recv ch j).symm

/-- All a device owes at launch is owed to a receive cell or to a barrier, which come after the staging semaphores. -/
theorem owed₀_pos {c : Dev nD} {g : GSem nD τ sig} {u : Unit} (h : 0 < owed₀ c g u) : u ∈ L g ∧ 0 < lv g u := by
  by_cases hc : 0 < owedCopies c g u
  · obtain ⟨d, ch, j, rfl⟩ := owedCopies_pos hc
    exact ⟨by rw [L_tc]; exact Finset.mem_singleton_self _, lt_of_lt_of_eq (by decide : 0 < 2) (lv_recv ch j).symm⟩
  · by_contra hn
    have hz : ∀ k, owedBar c k g u = 0 := fun k => by
      rw [tallyAt_apply]
      refine if_neg fun e => hn ?_
      rw [e.1]
      exact ⟨by rw [L_tc]; exact Finset.mem_singleton_self _, Nat.one_pos⟩
    have : owed₀ c g u = 0 := by
      show owedCopies c g u + owedBar c 2 g u + owedBar c 1 g u + owedBar c 0 g u = 0
      simp only [hz]
      omega
    omega

end Cert.KernelIdeal.Norm
-- ==== Proof.Steps.lean ====
/-
  The steps of the exchange: one rule per effect of the kernel that touches a shared cell, each stated for every
  chunk and every peer.

  A device's resources are gathered by the effect that consumes them: `signalKit` for the signal to one peer,
  `copyKit` for one copy, `recvKit` for the wait on one landing. The invariants of all cells, and that every barrier
  has reached its round, stand in one persistent assertion `records`.
-/
module

public import proofs.«01_k».proof.Proof.Protocol

@[expose] public section

noncomputable section

namespace Cert.KernelIdeal.Norm

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)
open Cert.KernelIdeal.Gen

variable {F : FTy → Type} [FloatOps F]

local notation "𝕄" => MT nD τ sig Unit (Elt F) ℕ UU ℕ

abbrev 𝒱₀ : Variants := Variants.none

/-! ## The cells -/

/-- A device's cells that the kernel opens and closes: its sends, and its receives from each peer. -/
abbrev Scoped : Type := (Fin 2 × Fin 3) ⊕ (Fin 2 × Fin 3)

/-- A device's send and receive cells. -/
def scopedCell (c : Dev nD) : Scoped → GSem nD τ sig
  | .inl a => sendCell c a.1 a.2
  | .inr a => recvCell c a.1 (peer c a.2)

/-- Different devices have different barriers, -/
theorem barCell_inj : Function.Injective (barCell : Dev nD → GSem nD τ sig) := fun a b h => by
  have := congrArg (fun g : GSem nD τ sig => g.1.1) h
  exact this
/-- and different send and receive cells. -/
theorem scopedCell_inj : Function.Injective fun x : Dev nD × Scoped => scopedCell x.1 x.2 := by decide +kernel

/-- All barriers, -/
def barCells : Finset (GSem nD τ sig) := Finset.univ.map ⟨barCell, barCell_inj⟩
/-- and all send and receive cells. -/
def scopedCells : Finset (GSem nD τ sig) := Finset.univ.map ⟨fun x : Dev nD × Scoped => scopedCell x.1 x.2, scopedCell_inj⟩

/-- A barrier is among the barriers, -/
theorem mem_bar (c : Dev nD) : barCell c ∈ barCells := Finset.mem_map.mpr ⟨c, Finset.mem_univ c, rfl⟩
/-- a send cell among the scoped cells, -/
theorem mem_send (c : Dev nD) (ch : Fin 2) (k : Fin 3) : sendCell c ch k ∈ scopedCells :=
  Finset.mem_map.mpr ⟨(c, .inl (ch, k)), Finset.mem_univ _, rfl⟩
/-- a receive cell too, -/
theorem mem_recv (c : Dev nD) (ch : Fin 2) (k : Fin 3) : recvCell c ch (peer c k) ∈ scopedCells :=
  Finset.mem_map.mpr ⟨(c, .inr (ch, k)), Finset.mem_univ _, rfl⟩
/-- A device is a peer of each of its peers. -/
theorem peer_back : ∀ (c : Dev nD) (k : Fin 3), ∃ k', peer (peer c k) k' = c := by decide
/-- and so is the receive cell at a peer that this device copies to. -/
theorem mem_land (c : Dev nD) (ch : Fin 2) (k : Fin 3) : recvCell (peer c k) ch c ∈ scopedCells := by
  obtain ⟨k', e⟩ := peer_back c k
  have := mem_recv (peer c k) ch k'
  rwa [e] at this

variable (X : Dev nD → S1024x512.Idx → Elt F .bf16) (κ : GSem nD τ sig → ℕ)

/-- Every cell's invariant, and that every barrier has reached its round. -/
def records : sProp 𝕄 :=
  iprop(bigSep (barCells ∪ scopedCells) (fun g => cellInv ER (exch X) (κ g) g) ∗ bigSep barCells (fun g => reached ER g 0))

instance records_persistent : BI.Persistent (records X κ) := by unfold records; infer_instance

/-- The records hold every cell's invariant: -/
theorem records_inv {g : GSem nD τ sig} (h : g ∈ barCells ∪ scopedCells) : (records X κ : sProp 𝕄) ⊢ cellInv ER (exch X) (κ g) g := by
  unfold records
  exact (BI.sep_and.trans BI.and_elimL).trans (bigSep_elim h)
/-- a barrier's, -/
theorem records_bar (c : Dev nD) : (records X κ : sProp 𝕄) ⊢ cellInv ER (exch X) (κ (barCell c)) (barCell c) :=
  records_inv X κ (Finset.mem_union_left _ (mem_bar c))
/-- a scoped cell's, -/
theorem records_scoped {g : GSem nD τ sig} (h : g ∈ scopedCells) : (records X κ : sProp 𝕄) ⊢ cellInv ER (exch X) (κ g) g :=
  records_inv X κ (Finset.mem_union_right _ h)
/-- and that every barrier has reached round 0. -/
theorem records_reached (c : Dev nD) : (records X κ : sProp 𝕄) ⊢ reached ER (barCell c) 0 := by
  unfold records
  exact (BI.sep_and.trans BI.and_elimR).trans (bigSep_elim (mem_bar c))

/-! ## The resources by effect -/

/-- Device c owes O. -/
def due (c : Dev nD) (O : CellTallies nD τ sig Unit) : sProp 𝕄 := iprop(∃ W, owes (c : Thread nD τ) O W)

/-- What c's barrier signal to peer k consumes. -/
def signalKit (c : Dev nD) (k : Fin 3) : sProp 𝕄 :=
  iprop(dutyTok ER (barCell (peer c k)) 0 c ∗ ((∃ f, sl c 0 (peer c k) fullShare f) ∗ ∃ f, sl c 1 (peer c k) fullShare f)
    ∗ reached ER (recvCell c 0 (peer c k)) 0 ∗ reached ER (recvCell c 1 (peer c k)) 0)
/-- What c's copy of chunk ch to peer k consumes, its slot's lent part and the peer's slot apart. -/
def copyKit (c : Dev nD) (ch : Fin 2) (k : Fin 3) : sProp 𝕄 :=
  iprop(dutyTok ER (sendCell c ch k) 0 c ∗ dutyTok ER (recvCell (peer c k) ch c) 0 c ∗ reached ER (sendCell c ch k) 0
    ∗ atPos ER (sendCell c ch k) 0 ∅ 0)
/-- A peer's slot and its receive cell, ready for c's copy. -/
def landKit (c : Dev nD) (ch : Fin 2) (k : Fin 3) : sProp 𝕄 :=
  iprop((∃ f, sl (peer c k) ch c fullShare f) ∗ reached ER (recvCell (peer c k) ch c) 0)
/-- A copy under way, as its issuer holds it. -/
def flight (c : Dev nD) (ch : Fin 2) (k : Fin 3) : sProp 𝕄 :=
  iprop(cred (tallyAt (sendCell c ch k) () N) ∗ atPos ER (sendCell c ch k) 0 ∅ 0)
/-- A landing not yet waited for, as its receiver holds it. -/
def recvKit (c : Dev nD) (ch : Fin 2) (k : Fin 3) : sProp 𝕄 :=
  iprop(cred (tallyAt (recvCell c ch (peer c k)) () N) ∗ atPos ER (recvCell c ch (peer c k)) 0 ∅ 0)

/-! ## The rules -/

variable (c : Dev nD) (Kt : PUnit → sProp 𝕄)

/-- Signal peer k's barrier: its duty is paid with c's two slots for k's copies. -/
theorem wp_signalPeer (k : Fin 3) {d : Dev nD} (hd : d = peer c k) (O : CellTallies nD τ sig Unit) {n : ℤ} (hn : n = 1)
    {α : Type} {Kt : α → sProp 𝕄} {cont : PUnit → Prog (TpuEff nD τ sig (Elt F) Λ₀ .tc) α} :
    iprop(records X κ ∗ signalKit c k ∗ due c (O + owedBar c k))
      ⊢ iprop((due c O -∗ wp frame (wpE (defs₀ (F := F)) 𝒱₀ c none) Set.univ (cont ⟨⟩) Kt)
          -∗ wp frame (wpE (defs₀ (F := F)) 𝒱₀ c none) Set.univ (.op (.semSignal (d, .tc) barS n) cont) Kt) := by
  subst hd hn
  unfold due signalKit
  iintro ⟨#HR, ⟨Ht, Hs, #Hr⟩, ⟨%W, HO⟩⟩ Hk
  iapply (Rounds.wp_signal 𝒱₀ ER (exch X) (c : Thread nD τ) none (dst := (peer c k : Thread nD τ)) (sem := barS) (r := 0) (d := c)
      (κ := κ (barCell (peer c k))) (mem_duties X (pays_bar _ _ (peer_ne c k).symm)) (amount_bar X (peer c k) c) () O rfl) $$ [HO Ht Hs]
  · isplitr; · iapply (records_bar X κ (peer c k)); iexact HR
    isplitl [HO]; · iexact HO
    isplitl [Ht]; · iexact Ht
    isplitl [Hs]
    · rw [payload_bar]
      unfold barPay
      isplitl [Hs]; · iexact Hs
      iexact Hr
    · iapply (records_reached X κ (peer c k)); iexact HR
  iintro HO
  iapply Hk
  iexists W; iexact HO

/-- Wait for the three barrier units, still owing the six copies: every peer's two slots arrive. -/
theorem wp_barrier {n : ℤ} (hn : n = 3) {α : Type} {Kt : α → sProp 𝕄} {cont : PUnit → Prog (TpuEff nD τ sig (Elt F) Λ₀ .tc) α} :
    iprop(records X κ ∗ levAts L lv ∗ cred (tallyAt (barCell c) () 3) ∗ atPos ER (barCell c) 0 ∅ 0 ∗ due c (owedCopies c))
      ⊢ iprop(((semVal (barCell c) 0 ∗ due c (owedCopies c)
            ∗ (landKit c 0 0 ∗ landKit c 1 0) ∗ (landKit c 0 1 ∗ landKit c 1 1) ∗ landKit c 0 2 ∗ landKit c 1 2)
            -∗ wp frame (wpE (defs₀ (F := F)) 𝒱₀ c none) Set.univ (cont ⟨⟩) Kt)
          -∗ wp frame (wpE (defs₀ (F := F)) 𝒱₀ c none) Set.univ (.op (.semWait barS n) cont) Kt) := by
  subst hn
  unfold due
  iintro ⟨#HR, #Hlev, Hc, Hat, ⟨%W, HO⟩⟩ Hk
  iapply (Rounds.wp_wait_rest_token 𝒱₀ ER (exch X) (c : Thread nD τ) none (κ := κ (barCell c))
      (wpE_semWait_eq 𝒱₀ (c : Thread nD τ) none Set.univ) (Set.mem_univ _) () (O := owedCopies c) (W := W) (R := 0) (m := 0) (T := ∅)
      ((Nat.zero_add 3).trans (expect_bar X c).symm)) $$ [Hc HO Hat]
  · isplitr; · iapply (records_bar X κ c); iexact HR
    isplitl [Hc]; · iexact Hc
    isplitl [HO]; · iexact HO
    isplitr; · iapply (mayWait_bar c); iexact Hlev
    iexact Hat
  iintro ⟨HO, Hat, -, Hpay⟩
  ihave Hp := (Entails.of_eq (rest_bar X c)) $$ Hpay
  iapply (fupd_wp frame (wpE (defs₀ (F := F)) 𝒱₀ c none) Set.univ _ _)
  imod (Rounds.cell_close ER (exch X) (Set.mem_univ (κ (barCell c))) id (duties_later X (barCell c))) $$ [Hat] with H0
  · isplitr; · iapply (records_bar X κ c); iexact HR
    iexact Hat
  imodintro
  iapply Hk
  isplitl [H0]; · iexact H0
  isplitl [HO]; · iexists _; iexact HO
  unfold barPay landKit
  icases Hp with ⟨⟨⟨Ha, Hb⟩, Hc, Hd⟩, ⟨⟨He, Hf⟩, Hg, Hh⟩, ⟨Hi, Hj⟩, Hl, Hm⟩
  isplitl [Ha Hb Hc Hd]
  · isplitl [Ha Hc]
    · isplitl [Ha] <;> iassumption
    · isplitl [Hb] <;> iassumption
  isplitl [He Hf Hg Hh]
  · isplitl [He Hg]
    · isplitl [He] <;> iassumption
    · isplitl [Hf] <;> iassumption
  isplitl [Hi Hl]
  · isplitl [Hi] <;> iassumption
  · isplitl [Hj] <;> iassumption

/-- Copy the own slot of chunk ch to peer k. -/
theorem wp_copyPeer (ch : Fin 2) (k : Fin 3) {off : Fin 4 → ℕ} {h} (he : off = ![ch.val, c.val, 0, 0]) {d : Dev nD} (hd : d = peer c k)
    {sS sR : DmaSem sig} (hS : sS = sendS ch k) (hR : sR = recvS ch c) (O : CellTallies nD τ sig Unit) {hsc hs hl hp}
    {α : Type} {Kt : α → sProp 𝕄} {cont : PUnit → Prog (TpuEff nD τ sig (Elt F) Λ₀ .tc) α} :
    iprop(records X κ ∗ copyKit c ch k ∗ landKit c ch k ∗ sl c ch c (lent k) (stats X) ∗ due c (O + owedCopy c ch k))
      ⊢ iprop(((flight c ch k ∗ due c O) -∗ wp frame (wpE (defs₀ (F := F)) 𝒱₀ c none) Set.univ (cont ⟨⟩) Kt)
          -∗ wp frame (wpE (defs₀ (F := F)) 𝒱₀ c none) Set.univ
            (.op (.enqueueDma (slotAt off h) (.remote (Dev.tc d) (slotAt off h) (.dma sS) hsc) (.dma sR) hs hl hp) cont) Kt) := by
  subst he hd hS hR
  unfold due copyKit landKit flight
  iintro ⟨#HR, ⟨HtS, HtR, #HrS, Hat⟩, ⟨⟨%g, Hd⟩, #HrR⟩, Hs, ⟨%W, HO⟩⟩ Hk
  iapply (Rounds.wp_send_pointsTo 𝒱₀ ER (exch X) (c : Thread nD τ) none (c' := (peer c k : Thread nD τ))
      (hsc := hsc) (hsrc := hs) (hdst := hl) (hsem := hp) (k := cont)
      (src := slotAt ![ch.val, c.val, 0, 0] h) (dst := slotAt ![ch.val, c.val, 0, 0] h)
      (sS := .dma (sendS ch k)) (sem := .dma (recvS ch c)) (q := lent k) (fs := stats X) (fd := g)
      (κ₁ := κ (sendCell c ch k)) (κ₂ := κ (recvCell (peer c k) ch c)) (r₁ := 0) (r₂ := 0) (d₁ := c) (d₂ := c)
      (mem_duties X (pays_send c ch k)) (mem_duties X (pays_recv _ ch c (peer_ne c k).symm)) () () N rfl
      (amount_dma X c _ c) (amount_dma X (peer c k) _ c) O rfl (W := W)
      (by
        rw [payload_send]
        exact Entails.of_eq (sl_view c ch c (lent k) h (stats X)))
      (by
        rw [payload_recv]
        unfold recvPay
        rw [pointsTo_congr (landed_slot ![ch.val, c.val, 0, 0] h (stats X) g)]
        exact Entails.of_eq (sl_view (peer c k) ch c fullShare h (stats X)))) $$ [Hs Hd HO HtS HtR]
  · isplitr; · iapply (records_scoped X κ (mem_send c ch k)); iexact HR
    isplitr; · iapply (records_scoped X κ (mem_land c ch k)); iexact HR
    isplitl [Hs]; · iapply (Entails.of_eq (sl_view c ch c (lent k) h (stats X)).symm); iexact Hs
    isplitl [Hd]; · iapply (Entails.of_eq (sl_view (peer c k) ch c fullShare h g).symm); iexact Hd
    isplitl [HO]; · iexact HO
    isplitl [HtS]; · iexact HtS
    isplitr; · iexact HrS
    isplitl [HtR]; · iexact HtR
    iexact HrR
  iintro ⟨Hc, HO⟩
  iapply Hk
  isplitl [Hc Hat]; · isplitl [Hc] <;> iassumption
  iexists W; iexact HO

/-- Wait on a cell of one copy and close it: what the copy pays arrives, and the counter is back at zero. -/
theorem wp_waitCopy {s : DmaSem sig} (hmem : ((c : Thread nD τ), SemLoc.dma s) ∈ scopedCells)
    (hexp : (exch X).expect ((c : Thread nD τ), .dma s) 0 = N) {off : Fin 4 → ℕ} {h} {hs hl}
    {α : Type} {Kt : α → sProp 𝕄} {cont : PUnit → Prog (TpuEff nD τ sig (Elt F) Λ₀ .tc) α} :
    iprop(records X κ ∗ (cred (tallyAt ((c : Thread nD τ), SemLoc.dma s) () N) ∗ atPos ER ((c : Thread nD τ), SemLoc.dma s) 0 ∅ 0) ∗ due c 0)
      ⊢ iprop(((semVal ((c : Thread nD τ), SemLoc.dma s) 0
            ∗ bigSep ((exch X).duties ((c : Thread nD τ), .dma s) 0 \ ∅) (fun d => (exch X).payload ((c : Thread nD τ), .dma s) 0 d) ∗ due c 0)
            -∗ wp frame (wpE (defs₀ (F := F)) 𝒱₀ c none) Set.univ (cont ⟨⟩) Kt)
          -∗ wp frame (wpE (defs₀ (F := F)) 𝒱₀ c none) Set.univ (.op (.waitDma2 s (slotAt off h) (slotAt off h) hs hl) cont) Kt) := by
  unfold due
  iintro ⟨#HR, ⟨Hc, Hat⟩, ⟨%W, HO⟩⟩ Hk
  iapply (Rounds.wp_wait_rest_token 𝒱₀ ER (exch X) (c : Thread nD τ) none (κ := κ ((c : Thread nD τ), .dma s))
      (wpE_waitDma2_eq (src := slotAt off h) (dst := slotAt off h) (hsrc := hs) (hdst := hl) 𝒱₀ (c : Thread nD τ) none Set.univ) (Set.mem_univ _) () (O := 0) (W := W) (R := 0) (m := 0) (T := ∅)
      ((Nat.zero_add N).trans hexp.symm)) $$ [Hc HO Hat]
  · isplitr; · iapply (records_scoped X κ hmem); iexact HR
    isplitl [Hc]; · iexact Hc
    isplitl [HO]; · iexact HO
    isplitr; · rw [MayWait_zero]; iempintro
    iexact Hat
  iintro ⟨HO, Hat, -, Hpay⟩
  iapply (fupd_wp frame (wpE (defs₀ (F := F)) 𝒱₀ c none) Set.univ _ _)
  imod (Rounds.cell_close ER (exch X) (Set.mem_univ (κ ((c : Thread nD τ), SemLoc.dma s))) id (duties_later X _)) $$ [Hat] with H0
  · isplitr; · iapply (records_scoped X κ hmem); iexact HR
    iexact Hat
  imodintro
  iapply Hk
  isplitl [H0]; · iexact H0
  isplitl [Hpay]; · iexact Hpay
  iexists _; iexact HO

/-- Wait for peer k's copy of chunk ch: the slot arrives at its final contents. -/
theorem wp_recvPeer (ch : Fin 2) (k : Fin 3) {s : DmaSem sig} (hS : s = recvS ch (peer c k)) {off : Fin 4 → ℕ} {h} {hs hl}
    {α : Type} {Kt : α → sProp 𝕄} {cont : PUnit → Prog (TpuEff nD τ sig (Elt F) Λ₀ .tc) α} :
    iprop(records X κ ∗ recvKit c ch k ∗ due c 0)
      ⊢ iprop(((semVal (recvCell c ch (peer c k)) 0 ∗ sl c ch (peer c k) fullShare (stats X) ∗ due c 0)
            -∗ wp frame (wpE (defs₀ (F := F)) 𝒱₀ c none) Set.univ (cont ⟨⟩) Kt)
          -∗ wp frame (wpE (defs₀ (F := F)) 𝒱₀ c none) Set.univ (.op (.waitDma2 s (slotAt off h) (slotAt off h) hs hl) cont) Kt) := by
  subst hS
  have h := wp_waitCopy X κ c (mem_recv c ch k) (expect_recv X c ch k) (h := h) (hs := hs) (hl := hl) (Kt := Kt) (cont := cont)
  rw [rest_recv] at h
  exact h

/-- Wait for the own copy of chunk ch to peer k: the lent part of the slot comes back. -/
theorem wp_sentPeer (ch : Fin 2) (k : Fin 3) {s : DmaSem sig} (hS : s = sendS ch k) {off : Fin 4 → ℕ} {h} {hs hl}
    {α : Type} {Kt : α → sProp 𝕄} {cont : PUnit → Prog (TpuEff nD τ sig (Elt F) Λ₀ .tc) α} :
    iprop(records X κ ∗ flight c ch k ∗ due c 0)
      ⊢ iprop(((semVal (sendCell c ch k) 0 ∗ sl c ch c (lent k) (stats X) ∗ due c 0)
            -∗ wp frame (wpE (defs₀ (F := F)) 𝒱₀ c none) Set.univ (cont ⟨⟩) Kt)
          -∗ wp frame (wpE (defs₀ (F := F)) 𝒱₀ c none) Set.univ (.op (.waitDma2 s (slotAt off h) (slotAt off h) hs hl) cont) Kt) := by
  subst hS
  have h := wp_waitCopy X κ c (mem_send c ch k) (expect_send X c ch k) (h := h) (hs := hs) (hl := hl) (Kt := Kt) (cont := cont)
  rw [rest_send] at h
  exact h

end Cert.KernelIdeal.Norm
-- ==== Proof.Local.lean ====
/-
  The kernel's own loads and stores, and the cutting of the statistics buffer they need.
-/
module

public import proofs.«01_k».proof.Proof.Steps

@[expose] public section

noncomputable section

namespace Cert.KernelIdeal.Norm

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.ValueIdx
open Cert.KernelIdeal.Gen

variable {F : FTy → Type} [FloatOps F]

local notation "𝕄" => MT nD τ sig Unit (Elt F) ℕ UU ℕ

variable (X : Dev nD → S1024x512.Idx → Elt F .bf16) (c : Dev nD)

/-! ## Cutting the statistics buffer -/

/-- The devices are c and its three peers, -/
theorem univ_peers : ∀ c : Dev nD, (Finset.univ : Finset (Dev nD)) = insert c (insert (peer c 0) (insert (peer c 1) {peer c 2})) := by decide
/-- and c is none of the three. -/
theorem peers_apart : ∀ c : Dev nD, c ∉ insert (peer c 0) (insert (peer c 1) ({peer c 2} : Finset (Dev nD))) := by decide

/-- Something held of every device is held of c and of its three peers. -/
theorem bigSep_peers (P : Dev nD → sProp 𝕄) :
    bigSep Finset.univ P = iprop(P c ∗ P (peer c 0) ∗ P (peer c 1) ∗ P (peer c 2)) := by
  rw [univ_peers c, bigSep_insert (peers_apart c), bigSep_insert (peers_distinct c).1, bigSep_insert (peers_distinct c).2, bigSep_singleton]
  rfl

/-- Share q of a whole chunk is share q of its four slots. -/
theorem chunk_slots (ch : Fin 2) (q : PosShare TreeShare) (f : S2x4x2x512.Idx → Elt F .f32) :
    ((statsM.view.loc (c : Thread nD τ) ↦[chunk ch]{q} f : sProp 𝕄))
      = iprop(sl c ch c q f ∗ sl c ch (peer c 0) q f ∗ sl c ch (peer c 1) q f ∗ sl c ch (peer c 2) q f) := by
  rw [← chunk_cover ch, ← bigSep_peers c fun j => sl c ch j q f]
  exact pointsTo_biUnion _ _ fun a _ b _ hab => slot_disjoint (a := (ch, a)) (b := (ch, b)) fun e => hab (congrArg Prod.snd e)

/-- A device's eight slots, its own first. -/
def slots (P : Fin 2 → Dev nD → sProp 𝕄) : sProp 𝕄 :=
  iprop((P 0 c ∗ P 0 (peer c 0) ∗ P 0 (peer c 1) ∗ P 0 (peer c 2)) ∗ P 1 c ∗ P 1 (peer c 0) ∗ P 1 (peer c 1) ∗ P 1 (peer c 2))

/-- The whole buffer is its eight slots. -/
theorem whole_slots (f : S2x4x2x512.Idx → Elt F .f32) :
    ((statsM.view.loc (c : Thread nD τ) ↦{fullShare} f : sProp 𝕄)) = slots c fun ch j => sl c ch j fullShare f := by
  have h : bigSep (Finset.univ : Finset (Fin 2 × Dev nD)) (fun a => sl c a.1 a.2 fullShare f) = slots c fun ch j => sl c ch j fullShare f := by
    rw [bigSep_univ_prod, bigSep_fin_two, bigSep_peers c, bigSep_peers c]
    rfl
  have hu := pointsTo_biUnion (τ := τ) (Ix := Unit) (Val := Elt F) (Name := ℕ) (U := UU) (Lvl := ℕ) (ℓ := statsM.view.loc (c : Thread nD τ)) (q := fullShare) (f := f)
    (Finset.univ : Finset (Fin 2 × Dev nD)) (fun a => slot a.1 a.2) fun a _ b _ hab => slot_disjoint hab
  rw [slots_cover] at hu
  exact hu.trans h

/-! ## What is read -/

/-- One row of the stacked scale and shift. -/
def gbRow (r : Fin 2) (G : S2x512.Idx → Elt F .bf16) : Vec F S1x512 .bf16 := fun y => G (ix2 r (y 1))
/-- The statistics of a chunk from all four devices. -/
def chunkStats (ch : Fin 2) : Vec F S1x4x2x512 .f32 := fun y => stats X (ix4 ch (y 1) (y 2) (y 3))

abbrev xM : Memref sig .tc .vmem S1024x512 .bf16 := Memref.whole cc0_stg0_0
abbrev gM : Memref sig .tc .vmem S2x512 .bf16 := Memref.whole cc0_stg1_0
abbrev oM : Memref sig .tc .vmem S1024x512 .bf16 := Memref.whole cc0_stg2_0

/-- The load of a chunk of x reads its rows. -/
theorem readAt_rows (ch : Fin 2) (h) (x : S1024x512.Idx → Elt F .bf16) :
    xM.view.readAt (Elt F) (Rect.unit (s := S1024x512) ![512 * ch.val, 0] S512x512.size h).toLoadRect x = rows ch x := by
  funext y
  show x ((Rect.unit (s := S1024x512) ![512 * ch.val, 0] S512x512.size h).emb y) = x _
  congr 1
  funext a
  apply Fin.ext
  fin_cases a
  · show 512 * ch.val + 1 * (y 0).val = 512 * ch.val + (y 0).val
    omega
  · show 0 + 1 * (y 1).val = (y 1).val
    omega

/-- The load of a row of the stack reads it. -/
theorem readAt_gbRow (r : Fin 2) (h) (G : S2x512.Idx → Elt F .bf16) :
    gM.view.readAt (Elt F) (Rect.unit (s := S2x512) ![r.val, 0] S1x512.size h).toLoadRect G = gbRow r G := by
  funext y
  show G ((Rect.unit (s := S2x512) ![r.val, 0] S1x512.size h).emb y) = G _
  congr 1
  funext a
  apply Fin.ext
  have h0 : (y 0).val < 1 := (y 0).isLt
  fin_cases a
  · show r.val + 1 * (y 0).val = r.val
    omega
  · show 0 + 1 * (y 1).val = (y 1).val
    omega

/-- Where the load of a chunk of statistics reads. -/
theorem emb_chunk (ch : Fin 2) (h) (y : S1x4x2x512.Idx) :
    (Rect.unit (s := S2x4x2x512) ![ch.val, 0, 0, 0] S1x4x2x512.size h).emb y = (ix4 ch (y 1) (y 2) (y 3) : S2x4x2x512.Idx) := by
  funext a
  apply Fin.ext
  have h0 : (y 0).val < 1 := (y 0).isLt
  fin_cases a
  · show ch.val + 1 * (y 0).val = ch.val
    omega
  · show 0 + 1 * (y 1).val = (y 1).val
    omega
  · show 0 + 1 * (y 2).val = (y 2).val
    omega
  · show 0 + 1 * (y 3).val = (y 3).val
    omega

/-- It reads the statistics of all four devices, -/
theorem readAt_chunkStats (ch : Fin 2) (h) :
    statsM.view.readAt (Elt F) (Rect.unit (s := S2x4x2x512) ![ch.val, 0, 0, 0] S1x4x2x512.size h).toLoadRect (stats X) = chunkStats X ch := by
  funext y
  show stats X ((Rect.unit (s := S2x4x2x512) ![ch.val, 0, 0, 0] S1x4x2x512.size h).emb y) = stats X _
  rw [emb_chunk]

/-- and touches nothing but its chunk. -/
theorem set_chunk (ch : Fin 2) (h) :
    (statsM.access (Rect.unit (s := S2x4x2x512) ![ch.val, 0, 0, 0] S1x4x2x512.size h)).set ⊆ chunk ch := by
  intro i hi
  obtain ⟨y, rfl⟩ := View.exists_emb_of_mem_set _ hi
  refine Finset.mem_filter.mpr ⟨Finset.mem_univ _, ?_⟩
  exact congrArg (fun j : S2x4x2x512.Idx => (j 0).val) (emb_chunk ch h y)

/-! ## What is written -/

/-- The normalized block of one chunk, from the statistics of all devices, the device's rows and its scale and shift. -/
def block (ch : Fin 2) (x : S1024x512.Idx → Elt F .bf16) (G : S2x512.Idx → Elt F .bf16) : FVec F S512x512 .bf16 :=
  k0_pay11 (k0_pay4 (gbRow 0 G)) (k0_pay5 (gbRow 1 G)) (k0_pay8 (chunkStats X ch)) (k0_pay9 (rows ch x)) (k0_pay10 (chunkStats X ch))

/-- The kernel's result on a device that holds x and G. -/
def result (x : S1024x512.Idx → Elt F .bf16) (G : S2x512.Idx → Elt F .bf16) : S1024x512.Idx → Elt F .bf16 := fun i =>
  block X ⟨(i 0).val / 512, by have h : (i 0).val < 1024 := (i 0).isLt; omega⟩ x G
    (ix2 ⟨(i 0).val % 512, Nat.mod_lt _ (by decide)⟩ (i 1))

/-- Where a chunk of rows puts its indices. -/
theorem emb_rows (ch : Fin 2) (h) (y : S512x512.Idx) :
    ((oM.access (Rect.unit (s := S1024x512) ![512 * ch.val, 0] S512x512.size h)).emb y 0).val = 512 * ch.val + (y 0).val
      ∧ (oM.access (Rect.unit (s := S1024x512) ![512 * ch.val, 0] S512x512.size h)).emb y 1 = y 1 :=
  ⟨by show 512 * ch.val + 1 * (y 0).val = _; omega, Fin.ext (by show 0 + 1 * (y 1).val = (y 1).val; omega)⟩

/-- The store of one chunk's block. -/
abbrev stored (ch : Fin 2) (h : ∀ a, (![512 * ch.val, 0] : Fin 2 → ℕ) a + S512x512.size a ≤ S1024x512.size a)
    (f : S1024x512.Idx → Elt F .bf16) (w : FVec F S512x512 .bf16) : S1024x512.Idx → Elt F .bf16 :=
  (oM.access (Rect.unit (s := S1024x512) ![512 * ch.val, 0] S512x512.size h)).write (Elt F) f w Finset.univ

/-- On its own rows the store leaves the result. -/
theorem stored_own (ch : Fin 2) (h) (f x : S1024x512.Idx → Elt F .bf16) (G : S2x512.Idx → Elt F .bf16) (i : S1024x512.Idx)
    (hi : (i 0).val / 512 = ch.val) : stored ch h f (block X ch x G) i = result X x G i := by
  have hlt : (i 0).val < 1024 := (i 0).isLt
  have e : (oM.access (Rect.unit (s := S1024x512) ![512 * ch.val, 0] S512x512.size h)).emb
      (ix2 ⟨(i 0).val % 512, Nat.mod_lt _ (by decide)⟩ (i 1) : S512x512.Idx) = i := by
    obtain ⟨h0, h1⟩ := emb_rows ch h (ix2 ⟨(i 0).val % 512, Nat.mod_lt _ (by decide)⟩ (i 1) : S512x512.Idx)
    funext a
    apply Fin.ext
    fin_cases a
    · refine h0.trans ?_
      show 512 * ch.val + (i 0).val % 512 = (i 0).val
      omega
    · exact congrArg Fin.val h1
  have hc : (⟨(i 0).val / 512, by omega⟩ : Fin 2) = ch := Fin.ext hi
  show _ = block X ⟨(i 0).val / 512, _⟩ x G (ix2 ⟨(i 0).val % 512, _⟩ (i 1))
  rw [hc]
  conv_lhs => rw [← e]
  unfold stored
  rw [View.write_emb_of_mem _ _ (Finset.mem_univ _)]
  rfl

/-- Elsewhere the store leaves what was there. -/
theorem stored_other (ch : Fin 2) (h) (f : S1024x512.Idx → Elt F .bf16) (w : FVec F S512x512 .bf16) (i : S1024x512.Idx)
    (hi : (i 0).val / 512 ≠ ch.val) : stored ch h f w i = f i := by
  refine View.write_of_not_mem _ _ _ fun hm => hi ?_
  obtain ⟨y, -, e⟩ := Finset.mem_map.mp hm
  have h0 := (emb_rows ch h y).1
  have hy : (y 0).val < 512 := (y 0).isLt
  have e0 : ((oM.access (Rect.unit (s := S1024x512) ![512 * ch.val, 0] S512x512.size h)).emb y 0).val = (i 0).val :=
    congrArg (fun j : S1024x512.Idx => (j 0).val) e
  omega

/-- The two stores together leave the result. -/
theorem stored_both (h0 h1) (f x : S1024x512.Idx → Elt F .bf16) (G : S2x512.Idx → Elt F .bf16) :
    stored 1 h1 (stored 0 h0 f (block X 0 x G)) (block X 1 x G) = result X x G := by
  funext i
  have hlt : (i 0).val < 1024 := (i 0).isLt
  by_cases hi : (i 0).val / 512 = 1
  · exact stored_own X 1 h1 _ x G i hi
  · rw [stored_other 1 h1 _ _ i hi]
    exact stored_own X 0 h0 f x G i (by show _ = 0; omega)

/-! ## The rules -/

/-- Load a chunk of the device's rows. -/
theorem wp_loadRows (ch : Fin 2) {off : Fin 2 → ℕ} {h} (he : off = ![512 * ch.val, 0]) {hl} (x : S1024x512.Idx → Elt F .bf16)
    {α : Type} {Kt : α → sProp 𝕄} {cont : Vec F S512x512 .bf16 → Prog (TpuEff nD τ sig (Elt F) Λ₀ .tc) α} :
    (xM.view.loc (c : Thread nD τ) ↦{fullShare} x : sProp 𝕄)
      ⊢ iprop(((xM.view.loc (c : Thread nD τ) ↦{fullShare} x) -∗ wp frame (wpE (defs₀ (F := F)) 𝒱₀ c none) Set.univ (cont (rows ch x)) Kt)
          -∗ wp frame (wpE (defs₀ (F := F)) 𝒱₀ c none) Set.univ
            (.op (.load xM (Rect.unit (s := S1024x512) off S512x512.size h).toLoadRect hl) cont) Kt) := by
  subst he
  rw [← readAt_rows ch h x]
  exact wp_load 𝒱₀ (c : Thread nD τ) none Set.univ (Finset.subset_univ _)

/-- Load one row of the stacked scale and shift. -/
theorem wp_loadGb (r : Fin 2) {off : Fin 2 → ℕ} {h} (he : off = ![r.val, 0]) {hl} (G : S2x512.Idx → Elt F .bf16)
    {α : Type} {Kt : α → sProp 𝕄} {cont : Vec F S1x512 .bf16 → Prog (TpuEff nD τ sig (Elt F) Λ₀ .tc) α} :
    (gM.view.loc (c : Thread nD τ) ↦{fullShare} G : sProp 𝕄)
      ⊢ iprop(((gM.view.loc (c : Thread nD τ) ↦{fullShare} G) -∗ wp frame (wpE (defs₀ (F := F)) 𝒱₀ c none) Set.univ (cont (gbRow r G)) Kt)
          -∗ wp frame (wpE (defs₀ (F := F)) 𝒱₀ c none) Set.univ
            (.op (.load gM (Rect.unit (s := S2x512) off S1x512.size h).toLoadRect hl) cont) Kt) := by
  subst he
  rw [← readAt_gbRow r h G]
  exact wp_load 𝒱₀ (c : Thread nD τ) none Set.univ (Finset.subset_univ _)

/-- Overwrite a chunk of the result's rows, the load before it disregarded. -/
theorem wp_storeOut (ch : Fin 2) {off : Fin 2 → ℕ} {h} (he : off = ![512 * ch.val, 0]) {hl hx hm} (f : S1024x512.Idx → Elt F .bf16)
    (w : FVec F S512x512 .bf16) (h' : ∀ a, (![512 * ch.val, 0] : Fin 2 → ℕ) a + S512x512.size a ≤ S1024x512.size a)
    {α : Type} {Kt : α → sProp 𝕄} {cont : PUnit → Prog (TpuEff nD τ sig (Elt F) Λ₀ .tc) α} :
    (oM.view.loc (c : Thread nD τ) ↦{fullShare} f : sProp 𝕄)
      ⊢ iprop(((oM.view.loc (c : Thread nD τ) ↦{fullShare} stored ch h' f w) -∗ wp frame (wpE (defs₀ (F := F)) 𝒱₀ c none) Set.univ (cont ⟨⟩) Kt)
          -∗ wp frame (wpE (defs₀ (F := F)) 𝒱₀ c none) Set.univ
            (.op (.load oM (Rect.unit (s := S1024x512) off S512x512.size h).toLoadRect hl) fun _ =>
              .op (.store oM (Rect.unit (s := S1024x512) off S512x512.size h) w Finset.univ hx hm) cont) Kt) := by
  subst he
  iintro Ho Hk
  iapply (wp_load 𝒱₀ (c : Thread nD τ) none Set.univ (m := oM) (Finset.subset_univ _)) $$ Ho
  iintro Ho
  iapply (wp_store 𝒱₀ (c : Thread nD τ) none Set.univ (m := oM)
    (r := Rect.unit (s := S1024x512) ![512 * ch.val, 0] S512x512.size h) (Finset.subset_univ _)) $$ Ho
  iexact Hk

/-- Store the device's own statistics of a chunk into its slot, the load before it disregarded. -/
theorem wp_storeOwn (ch : Fin 2) {offc : Fin 4 → ℕ} {hc} (hec : offc = ![ch.val, 0, 0, 0]) {off : Fin 3 → ℕ} {h}
    (he : off = ![c.val, 0, 0]) {hl hx hm} {w : FVec F S1x2x512 .f32} (hw : w = k0_pay2 (k0_pay1 (rows ch (X c))))
    {α : Type} {Kt : α → sProp 𝕄} {cont : PUnit → Prog (TpuEff nD τ sig (Elt F) Λ₀ .tc) α} :
    iprop(∃ f, sl c ch c fullShare f)
      ⊢ iprop((sl c ch c fullShare (stats X) -∗ wp frame (wpE (defs₀ (F := F)) 𝒱₀ c none) Set.univ (cont ⟨⟩) Kt)
          -∗ wp frame (wpE (defs₀ (F := F)) 𝒱₀ c none) Set.univ
            (.op (.load (chunkAt offc hc) (Rect.unit (s := S4x2x512) off S1x2x512.size h).toLoadRect hl) fun _ =>
              .op (.store (chunkAt offc hc) (Rect.unit (s := S4x2x512) off S1x2x512.size h) w Finset.univ hx hm) cont) Kt) := by
  subst hec he hw
  iintro ⟨%f, Hs⟩ Hk
  unfold sl
  iapply (wp_load_rect 𝒱₀ (c : Thread nD τ) none Set.univ (m := chunkAt ![ch.val, 0, 0, 0] hc)
    (r := Rect.unit (s := S4x2x512) ![c.val, 0, 0] S1x2x512.size h) (subset_of_eq (set_chunkAt ch hc c h))) $$ Hs
  iintro Hs
  iapply (wp_store 𝒱₀ (c : Thread nD τ) none Set.univ (m := chunkAt ![ch.val, 0, 0, 0] hc)
    (r := Rect.unit (s := S4x2x512) ![c.val, 0, 0] S1x2x512.size h) (subset_of_eq (set_chunkAt ch hc c h))) $$ Hs
  iintro Hs
  iapply Hk
  iapply (Entails.of_eq (pointsTo_congr (stored_slot X ch hc c h f))) $$ Hs

/-- Load a whole chunk of statistics: the own slot at its kept part, the others whole. -/
theorem wp_loadChunk (ch : Fin 2) {off : Fin 4 → ℕ} {h} (he : off = ![ch.val, 0, 0, 0]) {hl}
    {α : Type} {Kt : α → sProp 𝕄} {cont : Vec F S1x4x2x512 .f32 → Prog (TpuEff nD τ sig (Elt F) Λ₀ .tc) α} :
    iprop(sl c ch c kept (stats X) ∗ sl c ch (peer c 0) fullShare (stats X) ∗ sl c ch (peer c 1) fullShare (stats X)
        ∗ sl c ch (peer c 2) fullShare (stats X))
      ⊢ iprop(((sl c ch c kept (stats X) ∗ sl c ch (peer c 0) fullShare (stats X) ∗ sl c ch (peer c 1) fullShare (stats X)
            ∗ sl c ch (peer c 2) fullShare (stats X))
            -∗ wp frame (wpE (defs₀ (F := F)) 𝒱₀ c none) Set.univ (cont (chunkStats X ch)) Kt)
          -∗ wp frame (wpE (defs₀ (F := F)) 𝒱₀ c none) Set.univ
            (.op (.load statsM (Rect.unit (s := S2x4x2x512) off S1x4x2x512.size h).toLoadRect hl) cont) Kt) := by
  subst he
  rw [← readAt_chunkStats X ch h]
  iintro ⟨Ho, H0, H1, H2⟩ Hk
  ihave H0 := (sl_shares c ch (peer c 0) (stats X)).1 $$ H0
  ihave H1 := (sl_shares c ch (peer c 1) (stats X)).1 $$ H1
  ihave H2 := (sl_shares c ch (peer c 2) (stats X)).1 $$ H2
  icases H0 with ⟨A0, B0, K0⟩
  icases H1 with ⟨A1, B1, K1⟩
  icases H2 with ⟨A2, B2, K2⟩
  ihave Hc := (Entails.of_eq (chunk_slots c ch kept (stats X)).symm) $$ [Ho K0 K1 K2]
  · isplitl [Ho]; · iexact Ho
    isplitl [K0]; · iexact K0
    isplitl [K1] <;> iassumption
  iapply (wp_load 𝒱₀ (c : Thread nD τ) none Set.univ (m := statsM) (by
    have := set_chunk ch h
    rw [View.set_slice] at this
    exact this)) $$ Hc
  iintro Hc
  ihave Hc := (Entails.of_eq (chunk_slots c ch kept (stats X))) $$ Hc
  icases Hc with ⟨Ho, K0, K1, K2⟩
  iapply Hk
  isplitl [Ho]; · iexact Ho
  isplitl [A0 B0 K0]
  · iapply (sl_shares c ch (peer c 0) (stats X)).2
    isplitl [A0]; · iexact A0
    isplitl [B0] <;> iassumption
  isplitl [A1 B1 K1]
  · iapply (sl_shares c ch (peer c 1) (stats X)).2
    isplitl [A1]; · iexact A1
    isplitl [B1] <;> iassumption
  iapply (sl_shares c ch (peer c 2) (stats X)).2
  isplitl [A2]; · iexact A2
  isplitl [B2] <;> iassumption

end Cert.KernelIdeal.Norm
-- ==== Proof.Body.lean ====
/-
  The kernel's body on one device: from what the device holds at its start to the result in the output block.
-/
module

public import proofs.«01_k».proof.Proof.Local

@[expose] public section

noncomputable section

namespace Cert.KernelIdeal.Norm

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Cert.KernelIdeal.Gen

variable {F : FTy → Type} [FloatOps F]

local notation "𝕄" => MT nD τ sig Unit (Elt F) ℕ UU ℕ

variable (X : Dev nD → S1024x512.Idx → Elt F .bf16) (κ : GSem nD τ sig → ℕ) (c : Dev nD)

/-- The same thing held for each of the three peers. -/
def three (P : Fin 3 → sProp 𝕄) : sProp 𝕄 := iprop(P 0 ∗ P 1 ∗ P 2)

/-- What the device holds when the body starts, the blocks of x, of scale and shift and of the result apart. -/
def bodyIn : sProp 𝕄 :=
  iprop(records X κ ∗ levAts L lv ∗ due c (owed₀ c) ∗ (cred (tallyAt (barCell c) () 3) ∗ atPos ER (barCell c) 0 ∅ 0)
    ∗ three (signalKit c) ∗ (three (copyKit c 0) ∗ three (copyKit c 1)) ∗ (three (recvKit c 0) ∗ three (recvKit c 1))
    ∗ (∃ f, sl c 0 c fullShare f) ∗ ∃ f, sl c 1 c fullShare f)

/-- What it holds at the end: every counter at zero, nothing due, all eight slots. -/
def bodyOut : sProp 𝕄 :=
  iprop(due c 0 ∗ semVal (barCell c) 0
    ∗ (three (fun k => semVal (sendCell c 0 k) 0) ∗ three (fun k => semVal (sendCell c 1 k) 0))
    ∗ (three (fun k => semVal (recvCell c 0 (peer c k)) 0) ∗ three (fun k => semVal (recvCell c 1 (peer c k)) 0))
    ∗ slots c fun ch j => sl c ch j fullShare (stats X))

/-! ## The printed words -/

/-- Copy or signal number 1 of the kernel's text goes to peer 0. -/
theorem dev1 : (⟨k0_dev1 c, k0_dev1_lt c⟩ : Dev nD) = peer c 0 := Fin.ext (k0_dev1_eq c)
/-- Copy or signal number 2 of the kernel's text goes to peer 1. -/
theorem dev2 : (⟨k0_dev2 c, k0_dev2_lt c⟩ : Dev nD) = peer c 1 := Fin.ext (k0_dev2_eq c)
/-- Copy or signal number 3 of the kernel's text goes to peer 2. -/
theorem dev3 : (⟨k0_dev3 c, k0_dev3_lt c⟩ : Dev nD) = peer c 2 := Fin.ext (k0_dev3_eq c)
/-- Copy or signal number 4 of the kernel's text goes to peer 0. -/
theorem dev4 : (⟨k0_dev4 c, k0_dev4_lt c⟩ : Dev nD) = peer c 0 := Fin.ext (k0_dev4_eq c)
/-- Copy or signal number 5 of the kernel's text goes to peer 1. -/
theorem dev5 : (⟨k0_dev5 c, k0_dev5_lt c⟩ : Dev nD) = peer c 1 := Fin.ext (k0_dev5_eq c)
/-- Copy or signal number 6 of the kernel's text goes to peer 2. -/
theorem dev6 : (⟨k0_dev6 c, k0_dev6_lt c⟩ : Dev nD) = peer c 2 := Fin.ext (k0_dev6_eq c)
/-- Copy or signal number 7 of the kernel's text goes to peer 0. -/
theorem dev7 : (⟨k0_dev7 c, k0_dev7_lt c⟩ : Dev nD) = peer c 0 := Fin.ext (k0_dev7_eq c)
/-- Copy or signal number 8 of the kernel's text goes to peer 1. -/
theorem dev8 : (⟨k0_dev8 c, k0_dev8_lt c⟩ : Dev nD) = peer c 1 := Fin.ext (k0_dev8_eq c)
/-- Copy or signal number 9 of the kernel's text goes to peer 2. -/
theorem dev9 : (⟨k0_dev9 c, k0_dev9_lt c⟩ : Dev nD) = peer c 2 := Fin.ext (k0_dev9_eq c)

/-- Row-major position of the one element a unit rectangle of a two-axis array has. -/
theorem unit_position {n m : ℕ} (p q : ℕ) (h) (y : S1x1.Idx) :
    ((⟨2, ![n, m]⟩ : Shape).rowMajor ((Rect.unit (s := ⟨2, ![n, m]⟩) ![p, q] S1x1.size h).emb y)).val = p * m + q := by
  rw [Shape.rowMajor_val_two]
  have h0 : (y 0).val < 1 := (y 0).isLt
  have h1 : (y 1).val < 1 := (y 1).isLt
  show (p + 1 * (y 0).val) * m + (q + 1 * (y 1).val) = _
  rw [show (y 0).val = 0 by omega, show (y 1).val = 0 by omega]
  simp

/-- The semaphore the kernel names by an offset in its array of send semaphores. -/
theorem send_named (ch : Fin 2) (k : Fin 3) {off : Fin 2 → ℕ} (he : off = ![ch.val, k.val]) (h) :
    ((cc0_scratch1.slice (Rect.unit (s := S2x3) off S1x1.size h)).squeeze S_ squeezes_S1x1_S_).sem = sendS ch k := by
  subst he
  apply Fin.ext
  have e := unit_position (n := 2) (m := 3) ch.val k.val h (Shape.reshapeEquiv squeezes_S1x1_S_.numel_eq fun i => i.elim0)
  show 3 + _ = 3 + 3 * ch.val + k.val
  rw [show 3 + 3 * ch.val + k.val = 3 + (ch.val * 3 + k.val) by omega]
  exact congrArg (3 + ·) e
/-- The semaphore the kernel names by an offset in its array of receive semaphores. -/
theorem recv_named (ch : Fin 2) (j : Dev nD) {off : Fin 2 → ℕ} (he : off = ![ch.val, j.val]) (h) :
    ((cc0_scratch2.slice (Rect.unit (s := S2x4) off S1x1.size h)).squeeze S_ squeezes_S1x1_S_).sem = recvS ch j := by
  subst he
  apply Fin.ext
  have e := unit_position (n := 2) (m := 4) ch.val j.val h (Shape.reshapeEquiv squeezes_S1x1_S_.numel_eq fun i => i.elim0)
  show 9 + _ = 9 + 4 * ch.val + j.val
  rw [show 9 + 4 * ch.val + j.val = 9 + (ch.val * 4 + j.val) by omega]
  exact congrArg (9 + ·) e

/-! ## The run -/

/-- The body on device c: the statistics of all devices make its block of the result. -/
theorem body_run (x : S1024x512.Idx → Elt F .bf16) (hx : x = X c) (G : S2x512.Idx → Elt F .bf16)
    (hs0 : xM.IsWhole) (hs1 : gM.IsWhole) (hs2 : oM.IsWhole) (hs3 : statsM.IsWhole) {Kt : PUnit → sProp 𝕄} :
    iprop(bodyIn X κ c ∗ (xM.view.loc (c : Thread nD τ) ↦{fullShare} x) ∗ (gM.view.loc (c : Thread nD τ) ↦{fullShare} G)
        ∗ ∃ o, (oM.view.loc (c : Thread nD τ) ↦{fullShare} o))
      ⊢ iprop(((bodyOut X c ∗ (xM.view.loc (c : Thread nD τ) ↦{fullShare} x) ∗ (gM.view.loc (c : Thread nD τ) ↦{fullShare} G)
            ∗ (oM.view.loc (c : Thread nD τ) ↦{fullShare} result X x G)) -∗ Kt ⟨⟩)
          -∗ wp frame (wpE (defs₀ (F := F)) 𝒱₀ c none) Set.univ
            (cc0_body xM hs0 gM hs1 oM hs2 statsM hs3 cc0_scratch1 cc0_scratch2) Kt) := by
  unfold bodyIn three owed₀
  iintro ⟨⟨#HR, #Hlev, HO, ⟨Hcb, Hab⟩, ⟨Hg0, Hg1, Hg2⟩, ⟨⟨P00, P01, P02⟩, P10, P11, P12⟩, ⟨⟨R00, R01, R02⟩, R10, R11, R12⟩, Hs0, Hs1⟩, Hx, HG, %o, Ho⟩ Hk
  rw [cc0_body_eq_skeleton]
  unfold cc0_body_skel
  rw [k0_part10_eq_skeleton]
  unfold k0_part10_skel
  simp only [Prog.lift, Prog.bind_op, Prog.bind_ret, Prog.pure_eq_ret, Prog.bind_assoc]
  -- the barrier's signals and the first chunk's statistics
  rw [k0_part1_eq_skeleton]
  unfold k0_part1_skel
  simp only [semSignalWord, Prog.lift, Prog.bind_op, Prog.bind_ret, Prog.pure_eq_ret, wp_deviceId]
  iapply (wp_signalPeer X κ c 0 (dev1 c) (owedCopies c + owedBar c 2 + owedBar c 1) (by decide)) $$ [HO Hg0]
  · isplitr; · iexact HR
    isplitl [Hg0] <;> iassumption
  iintro HO
  iapply (wp_signalPeer X κ c 1 (dev2 c) (owedCopies c + owedBar c 2) (by decide)) $$ [HO Hg1]
  · isplitr; · iexact HR
    isplitl [Hg1] <;> iassumption
  iintro HO
  iapply (wp_signalPeer X κ c 2 (dev3 c) (owedCopies c) (by decide)) $$ [HO Hg2]
  · isplitr; · iexact HR
    isplitl [Hg2] <;> iassumption
  iintro HO
  iapply (wp_loadRows c 0 rfl x) $$ Hx
  iintro Hx
  -- the barrier and the first copies
  rw [k0_part2_eq_skeleton]
  unfold k0_part2_skel
  simp only [semWaitWord, Prog.lift, Prog.bind_op, Prog.bind_ret, Prog.pure_eq_ret]
  iapply (wp_storeOwn X c 0 rfl (k0_off1_eq c) (w := k0_pay2 (k0_pay1 (rows 0 x))) (by rw [hx])) $$ Hs0
  iintro Hs0
  ihave Hs0 := (sl_shares c 0 c (stats X)).1 $$ Hs0
  icases Hs0 with ⟨⟨S00, S01⟩, S02, K0⟩
  iapply (wp_barrier X κ c (by decide)) $$ [Hcb Hab HO]
  · isplitr; · iexact HR
    isplitr; · iexact Hlev
    isplitl [Hcb]; · iexact Hcb
    isplitl [Hab] <;> iassumption
  iintro ⟨Hb, HO, ⟨L00, L10⟩, ⟨L01, L11⟩, L02, L12⟩
  unfold owedCopies
  iapply (wp_copyPeer X κ c 0 0 (k0_off3_eq c) (dev4 c) (send_named 0 0 rfl _) (recv_named 0 c (k0_off2_eq c) _) (owedCopy c 1 2 + owedCopy c 1 1 + owedCopy c 1 0 + owedCopy c 0 2 + owedCopy c 0 1)) $$ [P00 L00 S00 HO]
  · isplitr; · iexact HR
    isplitl [P00]; · iexact P00
    isplitl [L00]; · iexact L00
    isplitl [S00] <;> iassumption
  iintro ⟨F00, HO⟩
  iapply (wp_copyPeer X κ c 0 1 (k0_off3_eq c) (dev5 c) (send_named 0 1 rfl _) (recv_named 0 c (k0_off2_eq c) _) (owedCopy c 1 2 + owedCopy c 1 1 + owedCopy c 1 0 + owedCopy c 0 2)) $$ [P01 L01 S01 HO]
  · isplitr; · iexact HR
    isplitl [P01]; · iexact P01
    isplitl [L01]; · iexact L01
    isplitl [S01] <;> iassumption
  iintro ⟨F01, HO⟩
  rw [k0_part3_eq_skeleton]
  unfold k0_part3_skel
  simp only [semWaitWord, Prog.lift, Prog.bind_op, Prog.bind_ret, Prog.pure_eq_ret]
  iapply (wp_copyPeer X κ c 0 2 (k0_off3_eq c) (dev6 c) (send_named 0 2 rfl _) (recv_named 0 c (k0_off2_eq c) _) (owedCopy c 1 2 + owedCopy c 1 1 + owedCopy c 1 0)) $$ [P02 L02 S02 HO]
  · isplitr; · iexact HR
    isplitl [P02]; · iexact P02
    isplitl [L02]; · iexact L02
    isplitl [S02] <;> iassumption
  iintro ⟨F02, HO⟩
  -- the second chunk's statistics and copies
  iapply (wp_loadRows c 1 rfl x) $$ Hx
  iintro Hx
  iapply (wp_storeOwn X c 1 rfl (k0_off1_eq c) (w := k0_pay2 (k0_pay1 (rows 1 x))) (by rw [hx])) $$ Hs1
  iintro Hs1
  ihave Hs1 := (sl_shares c 1 c (stats X)).1 $$ Hs1
  icases Hs1 with ⟨⟨S10, S11⟩, S12, K1⟩
  rw [k0_part4_eq_skeleton]
  unfold k0_part4_skel
  simp only [semWaitWord, Prog.lift, Prog.bind_op, Prog.bind_ret, Prog.pure_eq_ret]
  iapply (wp_copyPeer X κ c 1 0 (k0_off5_eq c) (dev7 c) (send_named 1 0 rfl _) (recv_named 1 c (k0_off4_eq c) _) (owedCopy c 1 2 + owedCopy c 1 1)) $$ [P10 L10 S10 HO]
  · isplitr; · iexact HR
    isplitl [P10]; · iexact P10
    isplitl [L10]; · iexact L10
    isplitl [S10] <;> iassumption
  iintro ⟨F10, HO⟩
  iapply (wp_copyPeer X κ c 1 1 (k0_off5_eq c) (dev8 c) (send_named 1 1 rfl _) (recv_named 1 c (k0_off4_eq c) _) (owedCopy c 1 2)) $$ [P11 L11 S11 HO]
  · isplitr; · iexact HR
    isplitl [P11]; · iexact P11
    isplitl [L11]; · iexact L11
    isplitl [S11] <;> iassumption
  iintro ⟨F11, HO⟩
  rw [k0_part5_eq_skeleton]
  unfold k0_part5_skel
  simp only [semWaitWord, Prog.lift, Prog.bind_op, Prog.bind_ret, Prog.pure_eq_ret]
  ihave HO := (Entails.of_eq (congrArg (due c) (zero_add (owedCopy c 1 2)).symm)) $$ HO
  iapply (wp_copyPeer X κ c 1 2 (k0_off5_eq c) (dev9 c) (send_named 1 2 rfl _) (recv_named 1 c (k0_off4_eq c) _) (0)) $$ [P12 L12 S12 HO]
  · isplitr; · iexact HR
    isplitl [P12]; · iexact P12
    isplitl [L12]; · iexact L12
    isplitl [S12] <;> iassumption
  iintro ⟨F12, HO⟩
  iapply (wp_loadGb c 0 rfl G) $$ HG
  iintro HG
  iapply (wp_loadGb c 1 rfl G) $$ HG
  iintro HG
  -- the first chunk's arrivals and result
  iapply (wp_recvPeer X κ c 0 0 (recv_named 0 (peer c 0) (k0_off6_eq c 0) _)) $$ [R00 HO]
  · isplitr; · iexact HR
    isplitl [R00] <;> iassumption
  iintro ⟨V00, D00, HO⟩
  rw [k0_part6_eq_skeleton]
  unfold k0_part6_skel
  simp only [semWaitWord, Prog.lift, Prog.bind_op, Prog.bind_ret, Prog.pure_eq_ret]
  iapply (wp_recvPeer X κ c 0 1 (recv_named 0 (peer c 1) (k0_off6_eq c 1) _)) $$ [R01 HO]
  · isplitr; · iexact HR
    isplitl [R01] <;> iassumption
  iintro ⟨V01, D01, HO⟩
  iapply (wp_recvPeer X κ c 0 2 (recv_named 0 (peer c 2) (k0_off6_eq c 2) _)) $$ [R02 HO]
  · isplitr; · iexact HR
    isplitl [R02] <;> iassumption
  iintro ⟨V02, D02, HO⟩
  iapply (wp_loadChunk X c 0 rfl) $$ [K0 D00 D01 D02]
  · isplitl [K0]; · iexact K0
    isplitl [D00]; · iexact D00
    isplitl [D01] <;> iassumption
  iintro ⟨K0, D00, D01, D02⟩
  iapply (wp_loadRows c 0 rfl x) $$ Hx
  iintro Hx
  rw [k0_part7_eq_skeleton]
  unfold k0_part7_skel
  simp only [semWaitWord, Prog.lift, Prog.bind_op, Prog.bind_ret, Prog.pure_eq_ret]
  iapply (wp_storeOut c 0 rfl o (block X 0 x G) inb_S1024x512_S512x512_0_0) $$ Ho
  iintro Ho
  -- the second chunk's
  iapply (wp_recvPeer X κ c 1 0 (recv_named 1 (peer c 0) (k0_off8_eq c 0) _)) $$ [R10 HO]
  · isplitr; · iexact HR
    isplitl [R10] <;> iassumption
  iintro ⟨V10, D10, HO⟩
  rw [k0_part8_eq_skeleton]
  unfold k0_part8_skel
  simp only [semWaitWord, Prog.lift, Prog.bind_op, Prog.bind_ret, Prog.pure_eq_ret]
  iapply (wp_recvPeer X κ c 1 1 (recv_named 1 (peer c 1) (k0_off8_eq c 1) _)) $$ [R11 HO]
  · isplitr; · iexact HR
    isplitl [R11] <;> iassumption
  iintro ⟨V11, D11, HO⟩
  iapply (wp_recvPeer X κ c 1 2 (recv_named 1 (peer c 2) (k0_off8_eq c 2) _)) $$ [R12 HO]
  · isplitr; · iexact HR
    isplitl [R12] <;> iassumption
  iintro ⟨V12, D12, HO⟩
  iapply (wp_loadChunk X c 1 rfl) $$ [K1 D10 D11 D12]
  · isplitl [K1]; · iexact K1
    isplitl [D10]; · iexact D10
    isplitl [D11] <;> iassumption
  iintro ⟨K1, D10, D11, D12⟩
  iapply (wp_loadRows c 1 rfl x) $$ Hx
  iintro Hx
  rw [k0_part9_eq_skeleton]
  unfold k0_part9_skel
  simp only [semWaitWord, Prog.lift, Prog.bind_op, Prog.bind_ret, Prog.pure_eq_ret]
  iapply (wp_storeOut c 1 rfl _ (block X 1 x G) inb_S1024x512_S512x512_512_0) $$ Ho
  iintro Ho
  -- the own copies come back
  iapply (wp_sentPeer X κ c 0 0 (send_named 0 0 rfl _)) $$ [F00 HO]
  · isplitr; · iexact HR
    isplitl [F00] <;> iassumption
  iintro ⟨U00, S00, HO⟩
  iapply (wp_sentPeer X κ c 0 1 (send_named 0 1 rfl _)) $$ [F01 HO]
  · isplitr; · iexact HR
    isplitl [F01] <;> iassumption
  iintro ⟨U01, S01, HO⟩
  iapply (wp_sentPeer X κ c 0 2 (send_named 0 2 rfl _)) $$ [F02 HO]
  · isplitr; · iexact HR
    isplitl [F02] <;> iassumption
  iintro ⟨U02, S02, HO⟩
  iapply (wp_sentPeer X κ c 1 0 (send_named 1 0 rfl _)) $$ [F10 HO]
  · isplitr; · iexact HR
    isplitl [F10] <;> iassumption
  iintro ⟨U10, S10, HO⟩
  iapply (wp_sentPeer X κ c 1 1 (send_named 1 1 rfl _)) $$ [F11 HO]
  · isplitr; · iexact HR
    isplitl [F11] <;> iassumption
  iintro ⟨U11, S11, HO⟩
  iapply (wp_sentPeer X κ c 1 2 (send_named 1 2 rfl _)) $$ [F12 HO]
  · isplitr; · iexact HR
    isplitl [F12] <;> iassumption
  iintro ⟨U12, S12, HO⟩
  rw [wp_ret]
  imodintro
  iapply Hk
  isplitr [Hx HG Ho]
  · unfold bodyOut slots three
    isplitl [HO]; · iexact HO
    isplitl [Hb]; · iexact Hb
    isplitl [U00 U01 U02 U10 U11 U12]
    · isplitl [U00 U01 U02]
      · isplitl [U00]; · iexact U00
        isplitl [U01] <;> iassumption
      · isplitl [U10]; · iexact U10
        isplitl [U11] <;> iassumption
    isplitl [V00 V01 V02 V10 V11 V12]
    · isplitl [V00 V01 V02]
      · isplitl [V00]; · iexact V00
        isplitl [V01] <;> iassumption
      · isplitl [V10]; · iexact V10
        isplitl [V11] <;> iassumption
    isplitl [S00 S01 S02 K0 D00 D01 D02]
    · isplitl [S00 S01 S02 K0]
      · iapply (sl_shares c 0 c (stats X)).2
        isplitl [S00 S01]; · isplitl [S00] <;> iassumption
        isplitl [S02] <;> iassumption
      isplitl [D00]; · iexact D00
      isplitl [D01] <;> iassumption
    · isplitl [S10 S11 S12 K1]
      · iapply (sl_shares c 1 c (stats X)).2
        isplitl [S10 S11]; · isplitl [S10] <;> iassumption
        isplitl [S12] <;> iassumption
      isplitl [D10]; · iexact D10
      isplitl [D11] <;> iassumption
  isplitl [Hx]; · iexact Hx
  isplitl [HG]; · iexact HG
  rw [← stored_both X inb_S1024x512_S512x512_0_0 inb_S1024x512_S512x512_512_0 o x G]
  iexact Ho

end Cert.KernelIdeal.Norm
-- ==== Proof.Opened.lean ====
/-
  Entering and leaving the kernel: the kernel's own semaphores, one by one and by kit.

  A device brings from the launch the right to open each of the twelve cells it waits on. At the kernel's entry every
  one of them is opened with its counter, and the kits of the signals, copies and landings are put together.
-/
module

public import proofs.«01_k».proof.Proof.Body

@[expose] public section

noncomputable section

namespace Cert.KernelIdeal.Norm

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

variable (X : Dev nD → S1024x512.Idx → Elt F .bf16) (κ : GSem nD τ sig → ℕ) (c : Dev nD)

/-! ## Families over the chunks and peers -/

/-- A product over three is the product of the three, -/
theorem bigSep_three (P : Fin 3 → sProp 𝕄) : bigSep Finset.univ P = three P :=
  bigSep_univ_eq_bigSepL [0, 1, 2] (by decide) (by decide) P

/-- over two chunks and three copies that of both triples, -/
theorem bigSep_pairs (P : Fin 2 × Fin 3 → sProp 𝕄) :
    bigSep Finset.univ P = iprop(three (fun k => P (0, k)) ∗ three fun k => P (1, k)) := by
  rw [bigSep_univ_prod, bigSep_univ_two, bigSep_three, bigSep_three]

/-- over two chunks and four devices that of both, c's own part first. -/
theorem bigSep_chunks (P : Fin 2 × Dev nD → sProp 𝕄) :
    bigSep Finset.univ P = iprop((P (0, c) ∗ three fun k => P (0, peer c k)) ∗ P (1, c) ∗ three fun k => P (1, peer c k)) := by
  rw [bigSep_univ_prod, bigSep_univ_two, bigSep_peers c, bigSep_peers c]
  rfl

/-! ## The kernel's own semaphores -/

/-- The kernel's semaphores: the sends, and the receives, among them the two a device never uses, its own. -/
def osem : (Fin 2 × Fin 3) ⊕ (Fin 2 × Dev nD) → SemLoc sig
  | .inl a => .dma (sendS a.1 a.2)
  | .inr a => .dma (recvS a.1 a.2)

/-- The two receive counters a device never uses. -/
def idle : sProp 𝕄 := iprop(semVal (recvCell c 0 c) 0 ∗ semVal (recvCell c 1 c) 0)

/-- Five parts in another order. -/
theorem regroup (A B C D E : sProp 𝕄) : iprop(A ∗ (B ∗ C) ∗ D ∗ E) = iprop((B ∗ D) ∗ A ∗ C ∗ E) := by
  have h1 : iprop(A ∗ (B ∗ C) ∗ D ∗ E) ⊢ iprop((B ∗ D) ∗ A ∗ C ∗ E) := by
    iintro ⟨HA, ⟨HB, HC⟩, HD, HE⟩
    isplitl [HB HD]
    · isplitl [HB] <;> iassumption
    isplitl [HA]; · iexact HA
    isplitl [HC] <;> iassumption
  have h2 : iprop((B ∗ D) ∗ A ∗ C ∗ E) ⊢ iprop(A ∗ (B ∗ C) ∗ D ∗ E) := by
    iintro ⟨⟨HB, HD⟩, HA, HC, HE⟩
    isplitl [HA]; · iexact HA
    isplitl [HB HC]
    · isplitl [HB] <;> iassumption
    isplitl [HD] <;> iassumption
  exact BI.Entails.antisymm h1 h2

/-- The kernel's semaphores at zero: the unused ones, the send cells and the receive cells. -/
theorem ownSems_split : (Pipeline.ownSems0 osem c : sProp 𝕄)
    = iprop(idle c ∗ (bigSep Finset.univ fun a : Fin 2 × Fin 3 => semVal (sendCell c a.1 a.2) 0)
        ∗ bigSep Finset.univ fun a : Fin 2 × Fin 3 => semVal (recvCell c a.1 (peer c a.2)) 0) := by
  have h : (Pipeline.ownSems0 osem c : sProp 𝕄) = iprop((bigSep Finset.univ fun a : Fin 2 × Fin 3 => semVal (sendCell c a.1 a.2) 0)
      ∗ bigSep Finset.univ fun a : Fin 2 × Dev nD => semVal (recvCell c a.1 a.2) 0) :=
    BI.bigSep_univ_sum _
  rw [h, bigSep_chunks c, bigSep_pairs fun a => semVal (recvCell c a.1 (peer c a.2)) 0]
  unfold idle
  exact regroup _ _ _ _ _

/-! ## Before and after the opening -/

/-- The tokens of the duties device c pays. -/
def tokens : sProp 𝕄 :=
  iprop((bigSep Finset.univ fun k : Fin 3 => dutyTok ER (barCell (peer c k)) 0 c)
    ∗ (bigSep Finset.univ fun a : Fin 2 × Fin 3 => dutyTok ER (sendCell c a.1 a.2) 0 c)
    ∗ bigSep Finset.univ fun a : Fin 2 × Fin 3 => dutyTok ER (recvCell (peer c a.2) a.1 c) 0 c)

/-- The credit device c waits with. -/
def credits : sProp 𝕄 :=
  iprop(cred (tallyAt (barCell c) () 3)
    ∗ bigSep Finset.univ fun a : Fin 2 × Fin 3 => cred (tallyAt (recvCell c a.1 (peer c a.2)) () N))

/-- What device c carries from the launch to the kernel. -/
def carried : sProp 𝕄 :=
  iprop((∃ κ, records X κ ∗ atPos ER (barCell c) 0 ∅ 0
      ∗ ((bigSep Finset.univ fun a : Fin 2 × Fin 3 => openTok ER (sendCell c a.1 a.2))
        ∗ bigSep Finset.univ fun a : Fin 2 × Fin 3 => openTok ER (recvCell c a.1 (peer c a.2)))
      ∗ tokens c)
    ∗ credits c)

/-- What c's barrier signal to peer k consumes, the slots apart. -/
def signalPart (k : Fin 3) : sProp 𝕄 :=
  iprop(dutyTok ER (barCell (peer c k)) 0 c ∗ reached ER (recvCell c 0 (peer c k)) 0 ∗ reached ER (recvCell c 1 (peer c k)) 0)

/-- What device c holds once its cells are open, the scratch apart. -/
def ready : sProp 𝕄 :=
  iprop((∃ κ, records X κ ∗ levAts L lv ∗ (cred (tallyAt (barCell c) () 3) ∗ atPos ER (barCell c) 0 ∅ 0)
      ∗ three (signalPart c) ∗ (three (copyKit c 0) ∗ three (copyKit c 1)) ∗ three (recvKit c 0) ∗ three (recvKit c 1))
    ∗ idle c)

/-- The cells of a family opened, each with its counter. -/
theorem open_family (g : Fin 2 × Fin 3 → GSem nD τ sig) (hg : ∀ a, g a ∈ scopedCells) :
    iprop(records X κ ∗ (bigSep Finset.univ fun a => openTok ER (g a)) ∗ bigSep Finset.univ fun a => semVal (g a) 0)
      ⊢ (|={Set.univ}=> ((bigSep Finset.univ fun a => atPos ER (g a) 0 ∅ 0) ∗ bigSep Finset.univ fun a => reached ER (g a) 0) : sProp 𝕄) := by
  rw [← bigSep_sep', ← bigSep_sep']
  refine BI.Entails.trans ?_ (bigSep_fupd _ _)
  refine bigSep_with_persistent (R := records X κ) fun a _ => ?_
  iintro ⟨#HR, Ho, Hv⟩
  iapply (Rounds.cell_open ER (exch X) (g := g a) (Set.mem_univ (κ (g a))))
  isplitr; · iapply (records_scoped X κ (hg a)); iexact HR
  isplitl [Ho] <;> iassumption

/-- The opening. -/
theorem ready_intro :
    iprop(carried X c ∗ Pipeline.ownSems0 osem c ∗ levAts L lv) ⊢ (|={Set.univ}=> ready X c : sProp 𝕄) := by
  rw [ownSems_split]
  unfold carried ready tokens credits
  iintro ⟨⟨⟨%κ, #HR, Hat, ⟨HoS, HoR⟩, HtB, HtS, HtL⟩, HcB, HcR⟩, ⟨Hidle, HvS, HvR⟩, #Hlev⟩
  imod (open_family X κ (fun a => sendCell c a.1 a.2) (fun a => mem_send c a.1 a.2)) $$ [HoS HvS] with ⟨HaS, HrS⟩
  · isplitr; · iexact HR
    isplitl [HoS] <;> iassumption
  imod (open_family X κ (fun a => recvCell c a.1 (peer c a.2)) (fun a => mem_recv c a.1 a.2)) $$ [HoR HvR] with ⟨HaR, HrR⟩
  · isplitr; · iexact HR
    isplitl [HoR] <;> iassumption
  imodintro
  isplitr [Hidle]
  · iexists κ
    isplitr; · iexact HR
    isplitr; · iexact Hlev
    isplitl [HcB Hat]
    · isplitl [HcB] <;> iassumption
    isplitl [HtB HrR]
    · ihave Hb := (Entails.of_eq (bigSep_three _)) $$ HtB
      ihave Hr := (Entails.of_eq (bigSep_pairs _)) $$ HrR
      unfold three signalPart
      icases Hb with ⟨B0, B1, B2⟩
      icases Hr with ⟨⟨R0, R1, R2⟩, Q0, Q1, Q2⟩
      isplitl [B0 R0 Q0]
      · isplitl [B0]; · iexact B0
        isplitl [R0] <;> iassumption
      isplitl [B1 R1 Q1]
      · isplitl [B1]; · iexact B1
        isplitl [R1] <;> iassumption
      isplitl [B2]; · iexact B2
      isplitl [R2] <;> iassumption
    isplitl [HtS HtL HrS HaS]
    · iapply (Entails.of_eq (bigSep_pairs fun a => copyKit c a.1 a.2))
      unfold copyKit
      iapply Smoke.bigSep_pair; isplitl [HtS]; · iexact HtS
      iapply Smoke.bigSep_pair; isplitl [HtL]; · iexact HtL
      iapply Smoke.bigSep_pair; isplitl [HrS] <;> iassumption
    · iapply (Entails.of_eq (bigSep_pairs fun a => recvKit c a.1 a.2))
      unfold recvKit
      iapply Smoke.bigSep_pair; isplitl [HcR] <;> iassumption
  · iexact Hidle

/-! ## The body between the two -/

/-- The scratch buffer at contents not chosen. -/
def scratch : sProp 𝕄 := iprop(∃ f, statsM.view.loc (c : Thread nD τ) ↦{fullShare} f)

/-- What is back when the body has returned, the blocks apart. -/
def finished : sProp 𝕄 := iprop(semVal (barCell c) 0 ∗ Pipeline.ownSems0 osem c ∗ scratch c)

/-- The body, from the open cells and the whole scratch to the closed cells and the whole scratch. -/
theorem body_open (x : S1024x512.Idx → Elt F .bf16) (hx : x = X c) (G : S2x512.Idx → Elt F .bf16) (hs0 hs1 hs2 hs3)
    {Kt : PUnit → sProp 𝕄} :
    iprop(ready X c ∗ scratch c ∗ due c (owed₀ c) ∗ (xM.view.loc (c : Thread nD τ) ↦{fullShare} x)
        ∗ (gM.view.loc (c : Thread nD τ) ↦{fullShare} G) ∗ ∃ o, oM.view.loc (c : Thread nD τ) ↦{fullShare} o)
      ⊢ iprop((finished c ∗ due c 0 ∗ (xM.view.loc (c : Thread nD τ) ↦{fullShare} x)
            ∗ (gM.view.loc (c : Thread nD τ) ↦{fullShare} G) ∗ (oM.view.loc (c : Thread nD τ) ↦{fullShare} result X x G) -∗ Kt ⟨⟩)
          -∗ wp frame (wpE (defs₀ (F := F)) 𝒱₀ c none) Set.univ
              (cc0_body xM hs0 gM hs1 oM hs2 statsM hs3 cc0_scratch1 cc0_scratch2) Kt) := by
  unfold scratch
  iintro ⟨HX, ⟨%f, Hf⟩, HO, Hx, HG, Ho⟩ Hk
  unfold ready
  icases HX with ⟨⟨%κ, #HR, #Hlev, Hbar, Hsig, Hcopy, Hrecv⟩, Hidle⟩
  ihave Hsl := (Entails.of_eq (whole_slots c f)) $$ Hf
  unfold slots
  icases Hsl with ⟨⟨S0, A0, A1, A2⟩, S1, B0, B1, B2⟩
  iapply (body_run X κ c x hx G hs0 hs1 hs2 hs3) $$ [HO Hbar Hsig Hcopy Hrecv S0 A0 A1 A2 S1 B0 B1 B2 Hx HG Ho]
  · isplitr [Hx HG Ho]
    · unfold bodyIn
      isplitr; · iexact HR
      isplitr; · iexact Hlev
      isplitl [HO]; · iexact HO
      isplitl [Hbar]; · iexact Hbar
      isplitl [Hsig A0 A1 A2 B0 B1 B2]
      · unfold three signalPart signalKit
        icases Hsig with ⟨⟨T0, P0⟩, ⟨T1, P1⟩, T2, P2⟩
        isplitl [T0 P0 A0 B0]
        · isplitl [T0]; · iexact T0
          isplitl [A0 B0]
          · isplitl [A0]; · iexists f; iexact A0
            iexists f; iexact B0
          iexact P0
        isplitl [T1 P1 A1 B1]
        · isplitl [T1]; · iexact T1
          isplitl [A1 B1]
          · isplitl [A1]; · iexists f; iexact A1
            iexists f; iexact B1
          iexact P1
        isplitl [T2]; · iexact T2
        isplitl [A2 B2]
        · isplitl [A2]; · iexists f; iexact A2
          iexists f; iexact B2
        iexact P2
      isplitl [Hcopy]; · iexact Hcopy
      isplitl [Hrecv]; · iexact Hrecv
      isplitl [S0]; · iexists f; iexact S0
      iexists f; iexact S1
    · isplitl [Hx]; · iexact Hx
      isplitl [HG] <;> iassumption
  iintro ⟨Hout, Hx, HG, Ho⟩
  unfold bodyOut
  icases Hout with ⟨HO, Hb, Hs, Hr, Hsl⟩
  iapply Hk
  isplitr [HO Hx HG Ho]
  · unfold finished
    isplitl [Hb]; · iexact Hb
    isplitl [Hidle Hs Hr]
    · rw [ownSems_split, bigSep_pairs, bigSep_pairs]
      isplitl [Hidle]; · iexact Hidle
      isplitl [Hs] <;> iassumption
    · unfold scratch
      iexists (stats X)
      iapply (Entails.of_eq (whole_slots c (stats X)).symm); iexact Hsl
  isplitl [HO]; · iexact HO
  isplitl [Hx]; · iexact Hx
  isplitl [HG] <;> iassumption

end Cert.KernelIdeal.Norm
-- ==== Proof.Region.lean ====
/-
  The kernel as a region of the program: what its arrays hold before and after, and its body in that frame.

  A device enters the kernel with its block of x, the two rows of gamma and beta stacked, and the result's array at any
  contents. It leaves with the first two unchanged and the result's array at the normalized block.
-/
module

public import proofs.«01_k».proof.Proof.Opened
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.RegionTalk
public import Idealize.ShloMosaic.Lib.Pipeline.ValueKit.Geometry

@[expose] public section

noncomputable section

namespace Cert.KernelIdeal.Norm

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

variable (m : (ℓ : Loc nD τ sig) → Buf (Elt F) ℓ) (c : Dev nD)

/-! ## What the buffers hold -/

/-- At the launch. -/
def V₀ : Valuation τ sig (Elt F) := fun b => m (c, b)
/-- After the host has stacked gamma and beta. -/
def V₁ : Valuation τ sig (Elt F) := StableHlo.after hostOps0 (V₀ m c)
/-- Device c's block of x, -/
def blockX (c : Dev nD) : S1024x512.Idx → Elt F .bf16 := V₁ m c (Proc.devRef .tc main_arg0)
/-- its rows of gamma and beta, -/
def blockG : S2x512.Idx → Elt F .bf16 := V₁ m c (Proc.devRef .tc main_v3)
/-- and its block of the result. -/
def out : S1024x512.Idx → Elt F .bf16 := result (blockX m) (blockX m c) (blockG m c)
/-- After the kernel. -/
def V₂ : Valuation τ sig (Elt F) := Function.update (V₁ m c) (Proc.devRef .tc main_v4) (out m c)

/-- The kernel leaves its result in the result's buffer, -/
theorem V₂_result : V₂ m c (Proc.devRef .tc main_v4) = out m c := Function.update_self _ _ _
/-- and every other buffer as it was. -/
theorem V₂_other (b : DevRef τ sig) (h : b ≠ Proc.devRef .tc main_v4) : V₂ m c b = V₁ m c b := Function.update_of_ne h _ _

/-! ## The proof data -/

/-- What the kernel's one grid point needs and leaves. -/
def dat (c : Dev nD) : Pipeline.Dat τ (Elt F) Unit ℕ UU ℕ cfg0 c where
  A w := V₁ m c (Proc.devRef .tc (Pipeline.arrRef spec0 w))
  after w _ := match w with
    | 0 => blockX m c
    | 1 => blockG m c
    | 2 => out m c
    | ⟨_ + 3, h⟩ => absurd h (Nat.not_lt.2 (Nat.le_add_left _ _))
  Φ t := if t.val = 0 then iprop(ready (blockX m) c ∗ scratch c ∗ ∃ r, prngReg c r) else iprop(finished c ∗ ∃ r, prngReg c r)
  q _ := fullShare
  owed t := if t.val = 0 then owed₀ c else 0

/-- Before the point: the exchange ready and the scratch buffers; -/
theorem Phi_first : (dat m c).Φ t0_0.castSucc = iprop(ready (blockX m) c ∗ scratch c ∗ ∃ r, prngReg c r) := by
  dsimp only [dat]; exact if_pos rfl
/-- after it: all of the exchange finished. -/
theorem Phi_last : (dat m c).Φ t0_0.succ = iprop(finished c ∗ ∃ r, prngReg c r) := by
  dsimp only [dat]; exact if_neg (by decide)
/-- Before the point the device owes its signals and copies, -/
theorem owed_first : (dat m c).owed t0_0.castSucc = owed₀ c := by
  dsimp only [dat]; exact if_pos rfl
/-- after it nothing. -/
theorem owed_last : (dat m c).owed t0_0.succ = 0 := by
  dsimp only [dat]; exact if_neg (by decide)

/-- The one point is the last. -/
theorem last_eq : Fin.last cfg0.N = t0_0.succ := by decide

/-- The tally handed to a point, and back. -/
theorem owesAt_eq (t : Fin (cfg0.N + 1)) (O : CellTallies nD τ sig Unit) (h : (dat m c).owed t = O) :
    ((dat m c).owesAt () t : sProp 𝕄) ⊣⊢ due c O := by
  unfold Pipeline.Dat.owesAt Pipeline.owesWithin due
  rw [h]
  constructor
  · iintro ⟨%W, -, HO⟩; iexists W; iexact HO
  · iintro ⟨%W, HO⟩; iexists W
    isplitr; · ipureintro; exact fun _ _ => Or.inl trivial
    iexact HO

/-- Owning a whole buffer is its points-to. -/
theorem owns_whole (b : Ref sig .tc) (f : b.ty.shape.Idx → Elt F b.ty.elt) :
    (owns (c : Thread nD τ) (Memref.whole b) fullShare f : sProp 𝕄)
      = iprop(∃ g, ⌜g = f⌝ ∗ ((c : Thread nD τ).loc b ↦{fullShare} g)) := by
  unfold owns; simp only [Memref.view_whole, View.read_whole, View.set_whole]

/-! ## What the windows move -/

/-- The kernel finds the block of x staged, -/
theorem before_x (d) : (dat m c).before 0 t0_0 d = blockX m c := by
  unfold Pipeline.Dat.before
  rw [if_pos (fetch0_0 t0_0)]
  funext y
  show V₁ m c (Proc.devRef .tc main_arg0) (((cfg0.win 0).blk t0_0).view.emb y) = V₁ m c (Proc.devRef .tc main_arg0) y
  congr 1
  funext a
  fin_cases a <;> exact Fin.ext (by show 0 * _ + 1 * _ = _; omega)

/-- and the stacked rows. -/
theorem before_g (d) : (dat m c).before 1 t0_0 d = blockG m c := by
  unfold Pipeline.Dat.before
  rw [if_pos (fetch0_1 t0_0)]
  funext y
  show V₁ m c (Proc.devRef .tc main_v3) (((cfg0.win 1).blk t0_0).view.emb y) = V₁ m c (Proc.devRef .tc main_v3) y
  congr 1
  funext a
  fin_cases a <;> exact Fin.ext (by show 0 * _ + 1 * _ = _; omega)

/-- After the run the result's array holds the normalized block. -/
theorem array_out : (dat m c).arrAt 2 cfg0.N = out m c := by
  refine (dat m c).arrAt_eq_of_covers 2 _ (by decide +kernel) fun t _ y => ?_
  show out m c y = out m c (((cfg0.win 2).blk t).view.emb y)
  congr 1
  funext a
  fin_cases a <;> exact Fin.ext (by show _ = 0 * _ + 1 * _; omega)

/-! ## The body in that frame -/

/-- The kernel's body meets what the grid point needs and leaves. -/
theorem body (c : Dev nD) : Pipeline.BodyObligation (dat m c) (defs₀ (F := F)) 𝒱₀ () Set.univ := fun t => by
  obtain rfl := fin_N0 t
  rw [bigSep_W0, bigSep_W0, Phi_first, Phi_last]
  show iprop((ready (blockX m) c ∗ scratch c ∗ ∃ r, prngReg c r) ∗ (dat m c).owesAt () t0_0.castSucc
      ∗ (∃ d, owns (c : Thread nD τ) xM fullShare ((dat m c).before 0 t0_0 d))
      ∗ (∃ d, owns (c : Thread nD τ) gM fullShare ((dat m c).before 1 t0_0 d))
      ∗ (∃ d, owns (c : Thread nD τ) oM fullShare ((dat m c).before 2 t0_0 d)))
    ⊢ wp frame (wpE (defs₀ (F := F)) 𝒱₀ c none) Set.univ (bodyAt0 t0_0) fun _ =>
      iprop((finished c ∗ ∃ r, prngReg c r) ∗ (dat m c).owesAt () t0_0.succ
        ∗ owns (c : Thread nD τ) xM fullShare (blockX m c) ∗ owns (c : Thread nD τ) gM fullShare (blockG m c)
        ∗ owns (c : Thread nD τ) oM fullShare (out m c))
  simp only [before_x, before_g]
  rw [owns_whole, owns_whole, owns_whole]
  simp only [owns_whole]
  iintro ⟨⟨Hready, Hscr, Hreg⟩, HO, ⟨%d0, %x, %hx, Hx⟩, ⟨%d1, %g, %hg, Hg⟩, ⟨%d2, %o, %ho, Ho⟩⟩
  subst hx hg
  iapply (body_open (blockX m) c _ rfl (blockG m c) _ _ _ _) $$ [Hready Hscr HO Hx Hg Ho]
  · isplitl [Hready]; · iexact Hready
    isplitl [Hscr]; · iexact Hscr
    isplitl [HO]; · iapply (owesAt_eq m c _ _ (owed_first m c)).1; iexact HO
    isplitl [Hx]; · iexact Hx
    isplitl [Hg]; · iexact Hg
    iexists o; iexact Ho
  iintro ⟨Hfin, HO, Hx, Hg, Ho⟩
  isplitl [Hfin Hreg]; · isplitl [Hfin] <;> iassumption
  isplitl [HO]; · iapply (owesAt_eq m c _ _ (owed_last m c)).2; iexact HO
  isplitl [Hx]; · iexists _; isplitr; · ipureintro; rfl
                  iexact Hx
  isplitl [Hg]; · iexists _; isplitr; · ipureintro; rfl
                  iexact Hg
  iexists _; isplitr; · ipureintro; rfl
  iexact Ho

/-! ## The two segments of the program -/

abbrev adm : (p : Fin 1) → (pcfgs (F := F) p).Adm := fun p => (cfgs p).toPCfg_adm

/-- The same for the program's only pallas_call. -/
def pdats : (p : Fin 1) → (c : Dev nD) → Pipeline.Dat τ (Elt F) Unit ℕ UU ℕ (Pipeline.pin (pcfgs (F := F)) adm p) c
  | 0 => dat m

/-- The buffers the program keeps between its operations, and those the kernel leaves alone. -/
abbrev hostBufs : Finset (DevRef τ sig) := Pipeline.ucRefs τ sig
abbrev besides : Finset (DevRef τ sig) := hostBufs \ Pipeline.arrRefs (τ := τ) spec0

/-- What rides past the host's operations. -/
def riding (c : Dev nD) : sProp 𝕄 := iprop(carried (blockX m) c ∗ (∃ r, prngReg c r) ∗ due c (owed₀ c))

/-- The host's operations. -/
def hostSeg : Pipeline.HostSeg (Name := ℕ) (U := UU) (pcfgs (F := F)) defs₀ 𝒱₀ L lv :=
  Pipeline.HostSeg.ofOps _ _ _ _ _ hostBufs hostOps0
    (fun op h => Pipeline.sub_ucRefs op (List.forall_iff_forall_mem.mp hostOps0_sub op h))
    (List.forall_iff_forall_mem.mp hostOps0_fresh) (V₀ m) (riding m)

/-- Entering the kernel, -/
theorem enter (c : Dev nD) :
    iprop(Pipeline.scopedRest (Pipeline.pin (pcfgs (F := F)) adm 0).spec c ∗ (∃ r, prngReg c r)
        ∗ StableHlo.held (c.tc : Thread nD τ) ∅ (V₁ m c) ∗ ready (blockX m) c) ⊢ (pdats m 0 c).Φ 0 := by
  rw [show (pdats m 0 c).Φ 0 = iprop(ready (blockX m) c ∗ scratch c ∗ ∃ r, prngReg c r) from Phi_first m c,
    show (Pipeline.scopedRest (Pipeline.pin (pcfgs (F := F)) adm 0).spec c : sProp 𝕄) = scratch c from scopedRest0_eq c]
  iintro ⟨Hs, Hr, -, HX⟩
  isplitl [HX]; · iexact HX
  isplitl [Hs] <;> iassumption

/-- and leaving it. -/
theorem leave (c : Dev nD) : (pdats m 0 c).Φ (Fin.last (Pipeline.pin (pcfgs (F := F)) adm 0).N)
    ⊢ iprop(Pipeline.scopedRest (Pipeline.pin (pcfgs (F := F)) adm 0).spec c ∗ (∃ r, prngReg c r)
        ∗ StableHlo.held (c.tc : Thread nD τ) ∅ (V₂ m c) ∗ Pipeline.ownSems0 osem c ∗ semVal (barCell c) 0) := by
  rw [show (pdats m 0 c).Φ (Fin.last _) = iprop(finished c ∗ ∃ r, prngReg c r) from
      (congrArg (dat m c).Φ last_eq).trans (Phi_last m c),
    show (Pipeline.scopedRest (Pipeline.pin (pcfgs (F := F)) adm 0).spec c : sProp 𝕄) = scratch c from scopedRest0_eq c,
    show (StableHlo.held (c.tc : Thread nD τ) ∅ (V₂ m c) : sProp 𝕄) = BI.emp from BI.bigSep_empty]
  unfold finished
  iintro ⟨⟨Hb, Hos, Hs⟩, Hr⟩
  isplitl [Hs]; · iexact Hs
  isplitl [Hr]; · iexact Hr
  isplitr; · iempintro
  isplitl [Hos] <;> iassumption

/-- The kernel changes the result's array alone. -/
theorem V₂_besides (b : DevRef τ sig) (h : b ∈ besides \ (∅ : Finset (DevRef τ sig))) : V₂ m c b = V₁ m c b := by
  refine V₂_other m c b fun e => ?_
  subst e
  exact (Finset.mem_sdiff.mp (Finset.mem_sdiff.mp h).1).2
    (Finset.mem_map.mpr ⟨main_v4, Finset.mem_image.mpr ⟨2, Finset.mem_univ _, rfl⟩, rfl⟩)

/-- Staging waits stay below everything a device owes. -/
theorem below (c : Dev nD) (t : Fin ((Pipeline.pin (pcfgs (F := F)) adm 0).N + 1)) (g : GSem nD τ sig) (i : Unit)
    (h : 0 < (pdats (F := F) m 0 c).owed t g i) : i ∈ L g ∧ (0 : ℕ) < lv g i := by
  have e : (pdats (F := F) m 0 c).owed t = if t.val = 0 then owed₀ c else 0 := rfl
  rw [e] at h
  split at h
  · exact owed₀_pos h
  · exact absurd h (Nat.lt_irrefl 0)

set_option backward.isDefEq.respectTransparency.types false in
/-- The kernel. -/
def kernelSeg : Pipeline.RegionSeg (pcfgs (F := F)) adm (pdats m) () defs₀ 𝒱₀ L lv 0 :=
  Pipeline.RegionSeg.ofTalk (pcfgs (F := F)) adm (pdats m) () defs₀ 𝒱₀ L lv 0 osem (by decide : Pipeline.OwnSemFacts spec0 osem)
    ∅ besides (Finset.empty_subset _) launch0.toP rfl (fun c => (body m c).loose)
    (fun _ => 0) owed₀ (fun c => (owed_first m c).trans (zero_add _).symm)
    (fun c => (congrArg (dat m c).owed last_eq).trans (owed_last m c)) (fun _ => rfl)
    (fun c => (pdats m 0 c).share_full fun _ => rfl)
    (V₁ m) (V₂ m) (fun c b h => V₂_besides m c b h)
    (carried (blockX m)) (fun c => semVal (barCell c) 0) (ready (blockX m)) (fun c => semVal (barCell c) 0)
    (ready_intro (blockX m)) (enter m) (leave m) (fun c => by iintro H; imodintro; iexact H)
    (fun _ => 0)
    ⟨fun c w s => by rw [L_tc]; exact Finset.mem_singleton_self _,
      fun c w s => by fin_cases w <;> exact Nat.le_refl 0,
      fun c t g i h => below m c t g i h⟩
    (fun _ => iprop(emp))
    (fun c w => rfl)
    (fun c w => by
      fin_cases w
      · exact ((dat m c).arrAt_in 0 rfl _).trans (V₂_other m c (Proc.devRef .tc main_arg0) (by decide)).symm
      · exact ((dat m c).arrAt_in 1 rfl _).trans (V₂_other m c (Proc.devRef .tc main_v3) (by decide)).symm
      · exact (array_out m c).trans (V₂_result m c).symm)

/-- The kernel's arrays are the host's. -/
theorem arrays_kept : Pipeline.arrRefs (τ := τ) spec0 ⊆ hostBufs := Pipeline.arrRefs_sub_ucRefs _ winFacts0.arr_unscoped

/-- What the host leaves is what the kernel's segment needs, -/
theorem kernelSeg_pre (c : Dev nD) : iprop(StableHlo.held (c : Thread nD τ) hostBufs (V₁ m c) ∗ riding m c) ⊢ (kernelSeg m).pre c := by
  show _ ⊢ iprop(StableHlo.held (c.tc : Thread nD τ) (Pipeline.arrRefs (τ := τ) spec0) (V₁ m c) ∗ (∃ r, prngReg c r)
    ∗ (StableHlo.held (c.tc : Thread nD τ) besides (V₁ m c) ∗ emp) ∗ carried (blockX m) c ∗ ∃ Wd, owes (c : Thread nD τ) (0 + owed₀ c) Wd)
  rw [zero_add, StableHlo.held_sub_split _ arrays_kept]
  unfold riding due
  iintro ⟨⟨Ha, Hb⟩, HT, Hr, HO⟩
  isplitl [Ha]; · iexact Ha
  isplitl [Hr]; · iexact Hr
  isplitl [Hb]
  · isplitl [Hb]; · iexact Hb
    iempintro
  isplitl [HT] <;> iassumption

/-- What a device holds at the end: its buffers, and its barrier counter at zero. -/
def final (c : Dev nD) : sProp 𝕄 := iprop(StableHlo.held (c : Thread nD τ) hostBufs (V₂ m c) ∗ semVal (barCell c) 0)

/-- and the segment leaves what is claimed at the end. -/
theorem kernelSeg_post (c : Dev nD) : (kernelSeg m).post c
    ⊢ iprop(final m c ∗ ∃ W, owes (c : Thread nD τ) (0 : CellTallies nD τ sig Unit) W) := by
  show iprop(StableHlo.held (c.tc : Thread nD τ) (Pipeline.arrRefs (τ := τ) spec0) (V₂ m c) ∗ (∃ r, prngReg c r)
    ∗ (StableHlo.held (c.tc : Thread nD τ) besides (V₂ m c) ∗ emp) ∗ semVal (barCell c) 0 ∗ ∃ Wd, owes (c : Thread nD τ) 0 Wd) ⊢ _
  unfold final
  rw [StableHlo.held_sub_split _ arrays_kept]
  iintro ⟨Ha, -, ⟨Hb, -⟩, Hv, HO⟩
  isplitr [HO]
  · isplitl [Ha Hb]
    · isplitl [Ha] <;> iassumption
    iexact Hv
  iexact HO

end Cert.KernelIdeal.Norm
-- ==== Proof.Launch.lean ====
/-
  The whole run: the launch deals every device its tokens, cells and credit; the program's two segments follow.
-/
module

public import proofs.«01_k».proof.Proof.Region

@[expose] public section

noncomputable section

namespace Cert.KernelIdeal.Norm

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg) (c : Dev nD)

/-! ## The credit of the launch -/

/-- What device d owes, as a sum over its three signals and its six copies. -/
theorem owed₀_apply (d : Dev nD) (g : GSem nD τ sig) :
    owed₀ d g () = (∑ k : Fin 3, if g = barCell (peer d k) then 1 else 0)
      + ∑ a : Fin 2 × Fin 3, if g = recvCell (peer d a.2) a.1 d then N else 0 := by
  unfold owed₀ owedCopies owedBar owedCopy
  simp only [Pi.add_apply, Finsupp.add_apply, tallyAt_apply, and_true, Fintype.sum_prod_type, Fin.sum_univ_two, Fin.sum_univ_three]
  ac_rfl

/-- Over all devices. -/
theorem owed_total (g : GSem nD τ sig) :
    ∑ d, owed₀ d g () = (Finset.univ.filter fun x : Dev nD × Fin 3 => g = barCell (peer x.1 x.2)).card
      + (Finset.univ.filter fun x : Dev nD × Fin 2 × Fin 3 => g = recvCell (peer x.1 x.2.2) x.2.1 x.1).card * N := by
  simp only [owed₀_apply, Finset.sum_add_distrib]
  rw [← Fintype.sum_prod_type' (fun (d : Dev nD) (k : Fin 3) => if g = barCell (peer d k) then 1 else 0),
    ← Fintype.sum_prod_type' (fun (d : Dev nD) (a : Fin 2 × Fin 3) => if g = recvCell (peer d a.2) a.1 d then N else 0)]
  simp [Finset.sum_ite]

/-- Each device is signalled by three peers and sent one copy of each chunk by each of them. -/
theorem signals_in : ∀ c : Dev nD, (Finset.univ.filter fun x : Dev nD × Fin 3 => barCell c = barCell (peer x.1 x.2)).card = 3
    ∧ (Finset.univ.filter fun x : Dev nD × Fin 2 × Fin 3 => barCell c = recvCell (peer x.1 x.2.2) x.2.1 x.1).card = 0 := by decide +kernel
/-- Which signals and copies reach a receive cell: one copy. -/
theorem copies_in : ∀ (c : Dev nD) (a : Fin 2 × Fin 3),
    (Finset.univ.filter fun x : Dev nD × Fin 3 => recvCell c a.1 (peer c a.2) = barCell (peer x.1 x.2)).card = 0
    ∧ (Finset.univ.filter fun x : Dev nD × Fin 2 × Fin 3 =>
        recvCell c a.1 (peer c a.2) = recvCell (peer x.1 x.2.2) x.2.1 x.1).card = 1 := by decide +kernel

/-- The units owed to a cell, counted over all devices, are the credit it starts with: -/
theorem credit_at (g : GSem nD τ sig) (n : ℕ) (h : ∑ d, owed₀ d g () = n) :
    tallyOn g (launchCredit (Pipeline.owing owed₀) 0 g) = (tallyAt g () n : CellTallies nD τ sig Unit) := by
  unfold tallyAt
  refine congrArg _ (Finsupp.ext fun u => ?_)
  cases u
  rw [Pipeline.launchCredit_owing, Finsupp.single_eq_same, h]

/-- three on a barrier, -/
theorem credit_bar : tallyOn (barCell c) (launchCredit (Pipeline.owing owed₀) 0 (barCell c)) = tallyAt (barCell c) () 3 :=
  credit_at _ _ (by rw [owed_total, (signals_in c).1, (signals_in c).2, Nat.zero_mul])
/-- a slot on a receive cell. -/
theorem credit_recv (a : Fin 2 × Fin 3) :
    tallyOn (recvCell c a.1 (peer c a.2)) (launchCredit (Pipeline.owing owed₀) 0 (recvCell c a.1 (peer c a.2)))
      = tallyAt (recvCell c a.1 (peer c a.2)) () N :=
  credit_at _ _ (by rw [owed_total, (copies_in c a).1, (copies_in c a).2, Nat.zero_add, Nat.one_mul])

/-- The receive semaphores a device waits on. -/
def waited (c : Dev nD) : (Fin 2 × Fin 3) ↪ SemLoc sig :=
  ⟨fun a => .dma (recvS a.1 (peer c a.2)), by revert c; decide⟩

/-- A device's launch credit is its credits by cell. -/
theorem credits_intro : (Pipeline.launchCred owed₀ c : sProp 𝕄) ⊢ credits c := by
  unfold Pipeline.launchCred credits
  rw [bigSep_univ_at _ (SemLoc.reg barS), credit_bar]
  refine sep_mono_right ?_
  have h : (bigSep (Finset.univ.map (waited c)) fun sm => cred (tallyOn ((c : Thread nD τ), sm) (launchCredit (Pipeline.owing owed₀) 0 ((c : Thread nD τ), sm))) : sProp 𝕄)
      = bigSep Finset.univ fun a : Fin 2 × Fin 3 => cred (tallyAt (recvCell c a.1 (peer c a.2)) () N) := by
    rw [bigSep_map]
    exact bigSep_congr fun a _ => congrArg cred (credit_recv c a)
  rw [← h]
  refine bigSep_subset fun sm hsm => ?_
  obtain ⟨a, -, rfl⟩ := Finset.mem_map.mp hsm
  exact Finset.mem_erase.mpr ⟨dma_ne_bar _, Finset.mem_univ _⟩

/-! ## The tokens -/

/-- The duties of a device: its signals, its sends, its landings. -/
abbrev Duty : Type := Fin 3 ⊕ (Fin 2 × Fin 3) ⊕ (Fin 2 × Fin 3)

/-- The duties of a device, each with its cell and round. -/
def duty (c : Dev nD) : Duty → GSem nD τ sig × ℕ × Dev nD
  | .inl k => (barCell (peer c k), 0, c)
  | .inr (.inl a) => (sendCell c a.1 a.2, 0, c)
  | .inr (.inr a) => (recvCell (peer c a.2) a.1 c, 0, c)

/-- No two of them are one. -/
theorem duty_inj : Function.Injective fun x : Dev nD × Duty => duty x.1 x.2 := by decide +kernel

/-- All duties of all devices. -/
def allDuties : Finset (GSem nD τ sig × ℕ × Dev nD) := Finset.univ.map ⟨fun x : Dev nD × Duty => duty x.1 x.2, duty_inj⟩

/-- The duties' tokens, dealt to the devices that pay, -/
theorem tokens_dealt : bigSep allDuties (fun x => (dutyTok ER x.1 x.2.1 x.2.2 : sProp 𝕄)) = bigSep Finset.univ fun c : Dev nD => tokens c := by
  unfold allDuties
  rw [bigSep_map, bigSep_univ_prod]
  refine bigSep_congr fun c _ => ?_
  rw [bigSep_univ_sum, bigSep_univ_sum]
  rfl

/-- The rights to open the cells, per device. -/
def rights (c : Dev nD) : sProp 𝕄 :=
  iprop((bigSep Finset.univ fun a : Fin 2 × Fin 3 => openTok ER (sendCell c a.1 a.2))
    ∗ bigSep Finset.univ fun a : Fin 2 × Fin 3 => openTok ER (recvCell c a.1 (peer c a.2)))

/-- and the rights to open the scoped cells, to their devices. -/
theorem rights_dealt : bigSep scopedCells (fun g => (openTok ER g : sProp 𝕄)) = bigSep Finset.univ fun c : Dev nD => rights c := by
  unfold scopedCells
  rw [bigSep_map, bigSep_univ_prod]
  refine bigSep_congr fun c _ => ?_
  rw [bigSep_univ_sum]
  rfl

/-- Barriers are no scoped cells. -/
theorem cells_apart : Disjoint barCells scopedCells := by
  rw [Finset.disjoint_left]
  intro g hb hs
  obtain ⟨c, -, rfl⟩ := Finset.mem_map.mp hb
  obtain ⟨⟨d, x⟩, -, e⟩ := Finset.mem_map.mp hs
  rcases x with a | a <;> exact dma_ne_bar _ (congrArg Prod.snd e)

/-! ## The launch -/

/-- The launch's resource for the exchange. -/
def exchange : sProp 𝕄 := BI.own (ER (launchOf barCells scopedCells allDuties))

/-- The launch's resource, all of it kept at device 0 until it is dealt. -/
def atZero (c : Dev nD) : sProp 𝕄 := if c = 0 then exchange else iprop(emp)

theorem atZero_all : bigSep Finset.univ (fun c : Dev nD => (atZero c : sProp 𝕄)) = exchange := by
  rw [bigSep_univ_at _ 0, bigSep_congr (s := Finset.univ.erase 0) (Ψ := fun _ => (BI.emp : sProp 𝕄))
      fun c hc => by unfold atZero; rw [if_neg (Finset.ne_of_mem_erase hc)]; rfl, BI.bigSep_emp_const]
  unfold atZero; rw [if_pos rfl]
  exact BI.equiv_iff.mp sep_emp

/-- The launch's resource, the staging's part and the exchange's. -/
def start : UU :=
  (initOf (Pipeline.cells (Pipeline.pin (pcfgs (F := F)) adm) cellOf_inj) (Pipeline.launchToks (Pipeline.pin (pcfgs (F := F)) adm) cellOf_inj),
    launchOf barCells scopedCells allDuties)

/-- What a device holds before its first operation. -/
abbrev first (c : Dev nD) : sProp 𝕄 := iprop(StableHlo.held (c : Thread nD τ) hostBufs (V₀ m c) ∗ riding m c)

/-- The part of it that the launch hands each device by itself. -/
def own (c : Dev nD) : sProp 𝕄 :=
  iprop(StableHlo.held (c : Thread nD τ) hostBufs (V₀ m c) ∗ credits c ∗ (∃ r, prngReg c r) ∗ due c (owed₀ c))

/-- The part of it that is dealt from the exchange's resource. -/
def dealt (c : Dev nD) : sProp 𝕄 := iprop(atPos ER (barCell c) 0 ∅ 0 ∗ rights c ∗ tokens c)

/-- What a device holds at its start. -/
theorem first_intro (κ : GSem nD τ sig → ℕ) (c : Dev nD) : iprop(records (blockX m) κ ∗ (dealt c ∗ own m c)) ⊢ first m c := by
  unfold first own dealt riding carried rights
  iintro ⟨#HR, ⟨Hat, Hop, Htk⟩, Hh, Hcr, Hp, HO⟩
  isplitl [Hh]; · iexact Hh
  isplitr [Hp HO]
  · isplitr [Hcr]
    · iexists κ
      isplitr; · iexact HR
      isplitl [Hat]; · iexact Hat
      isplitl [Hop] <;> iassumption
    · iexact Hcr
  isplitl [Hp] <;> iassumption

/-- Of the semaphores outside the kernel a device has its barrier alone. -/
theorem barrier_only : (unscopedSems0 c : sProp 𝕄) = semVal (barCell c) 0 := by
  unfold unscopedSems0
  rw [show (Finset.univ.filter fun sm : SemLoc sig => ¬ sm.isScoped .tc) = {SemLoc.reg barS} from by decide, BI.bigSep_singleton]

/-- A device's own share of the launch. -/
def given (c : Dev nD) : sProp 𝕄 :=
  iprop(unscopedBufs c (fun b => m ((c : Thread nD τ).loc b)) ∗ unscopedSems0 c ∗ owes (c : Thread nD τ) (owed₀ c) ∅
    ∗ Pipeline.launchCred owed₀ c ∗ prngReg c (ρ c) ∗ atZero c)

/-- What the launch gives a device: its own part, and the barrier at zero. -/
theorem given_split (c : Dev nD) : given m ρ c ⊢ (iprop(own m c ∗ (semVal (barCell c) 0 ∗ atZero c)) : sProp 𝕄) := by
  unfold given
  rw [show unscopedBufs c (fun b => m ((c : Thread nD τ).loc b)) = StableHlo.held (c : Thread nD τ) hostBufs (V₀ m c) from
      Pipeline.unscopedBufs_held c (V₀ m c), barrier_only]
  unfold own due
  iintro ⟨Hh, Hus, HO, Hcr, Hp, HG⟩
  isplitl [Hh HO Hcr Hp]
  · isplitl [Hh]; · iexact Hh
    isplitl [Hcr]; · iapply (credits_intro c); iexact Hcr
    isplitl [Hp]; · iexists (ρ c); iexact Hp
    iexists ∅; iexact HO
  isplitl [Hus] <;> iassumption

/-- The dealing. -/
theorem deal : iprop((bigSep Finset.univ fun c : Dev nD => given m ρ c) ∗ levAts L lv)
    ⊢ (|={Set.univ}=> bigSep Finset.univ (first m) : sProp 𝕄) := by
  have hv : bigSep Finset.univ (fun c : Dev nD => (semVal (barCell c) 0 : sProp 𝕄)) ⊢ bigSep barCells (fun g => (semVal g 0 : sProp 𝕄)) :=
    Entails.of_eq (bigSep_map (s := Finset.univ) ⟨barCell, barCell_inj⟩ (Φ := fun g : GSem nD τ sig => (semVal g 0 : sProp 𝕄))).symm
  have hat : bigSep barCells (fun g => (atPos ER g 0 ∅ 0 : sProp 𝕄)) ⊢ bigSep Finset.univ (fun c : Dev nD => (atPos ER (barCell c) 0 ∅ 0 : sProp 𝕄)) :=
    Entails.of_eq (bigSep_map (s := Finset.univ) ⟨barCell, barCell_inj⟩ (Φ := fun g : GSem nD τ sig => (atPos ER g 0 ∅ 0 : sProp 𝕄)))
  have hs : (bigSep Finset.univ fun c : Dev nD => given m ρ c)
      ⊢ (bigSep Finset.univ fun c : Dev nD => iprop(own m c ∗ (semVal (barCell c) 0 ∗ atZero c)) : sProp 𝕄) :=
    bigSep_mono fun c _ => given_split m ρ c
  iintro ⟨H, -⟩
  ihave H' := hs $$ H
  ihave H2 := Smoke.bigSep_unpair $$ H'; icases H2 with ⟨HB, H3⟩
  ihave H4 := Smoke.bigSep_unpair $$ H3; icases H4 with ⟨Hv, HG⟩
  ihave Hu := (Entails.of_eq (atZero_all (F := F))) $$ HG
  unfold exchange
  imod (Rounds.fund_launch ER (exch (blockX m)) cells_apart (fun g _ h => h) allDuties) $$ [Hv Hu] with ⟨%κ, -, #Hinv, #Hr, Hat, Hopen, Htok⟩
  · isplitl [Hv]
    · iapply hv $$ Hv
    · iexact Hu
  imodintro
  iapply (bigSep_with_persistent (R := records (blockX m) κ) (Φ := fun c => iprop(dealt c ∗ own m c)) fun c _ => first_intro m κ c)
  isplitr
  · unfold records
    isplitr; · iexact Hinv
    iexact Hr
  iapply Smoke.bigSep_pair
  isplitr [HB]
  · unfold dealt
    iapply Smoke.bigSep_pair; isplitl [Hat]; · iapply hat $$ Hat
    iapply Smoke.bigSep_pair; isplitl [Hopen]
    · iapply (Entails.of_eq (rights_dealt (F := F))) $$ Hopen
    · iapply (Entails.of_eq (tokens_dealt (F := F))) $$ Htok
  · iexact HB

/-! ## The run -/

/-- The one semaphore outside the kernel is the barrier. -/
theorem unscoped_only : ∀ sm : SemLoc sig, sm.isScoped .tc = false → sm = .reg barS := by decide

/-- Every buffer outside the kernel is the host's. -/
theorem mem_hostBufs (b : Ref sig .tc) (h : (Proc.devRef .tc b : DevRef τ sig).isScoped = false) :
    (Proc.devRef .tc b : DevRef τ sig) ∈ hostBufs :=
  Finset.mem_filter.mpr ⟨StableHlo.devRef_mem_tcRefs b, by rw [h]; exact Bool.false_ne_true⟩

/-- The program's segments. -/
abbrev segs : List (Pipeline.Seg (pcfgs (F := F)) adm (pdats m) () defs₀ 𝒱₀ L lv) := [.host (hostSeg m), .region (kernelSeg m)]

set_option backward.isDefEq.respectTransparency.types false in
/-- From any memory with all counters at zero, every fair execution on the four devices ends; then each device's arguments
    are unchanged, its result is the normalized block, and every counter is zero again. -/
theorem run_main : θ_run defs (onTc (τ := τ) (main (F := F))) ⟨m, fun _ => 0, ρ⟩
    (fun r => (∀ c : Dev nD, r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)
        ∧ r.2.mem ((c : Thread nD τ).loc main_v4) = out m c) ∧ r.2.sem = fun _ => 0) :=
  Pipeline.θ_run_regions_kit_sems (pcfgs (F := F)) adm (pdats m) () cellOf_inj EP defs₀ 𝒱₀ L lv m ρ main (segs m)
    (fun c Q => by rw [main_segs adm (pdats m) () 𝒱₀ L lv (hostSeg m) (kernelSeg m) rfl c])
    (by simp only [segs, Pipeline.Seg.pipes_host, Pipeline.Seg.pipes_region, Pipeline.Seg.pipes_nil]; decide)
    (O₀ := owed₀) (hL := L_of_ne) (G := atZero) (u₀ := start)
    (hu₀ := by
      unfold start
      iintro Hu
      ihave H := (ownU_pair _ _) $$ Hu
      icases H with ⟨HP, HX⟩
      imodintro
      isplitl [HP]; · iexact HP
      rw [atZero_all]; unfold exchange; iexact HX)
    (T₀ := first m) (Tₙ := final m)
    (hch := ⟨fun c => .rfl, fun c => kernelSeg_pre m c, fun c => kernelSeg_post m c⟩)
    (hinit := deal m ρ)
    (QY := fun c s => (∀ b ∈ (hostBufs : Finset (DevRef τ sig)), s.mem ((c : Dev nD), b) = V₂ m c b) ∧ s.sem (barCell c) = 0)
    (hfin := fun c s' => by
      unfold final StableHlo.held
      iintro ⟨⟨Hh, Hb0⟩, HSI⟩
      ihave Hr := (pointsTo_read_all hostBufs (fun b => ((c : Dev nD), b)) (fun b => V₂ m c b) s') $$ [Hh HSI]
      · isplitl [Hh] <;> iassumption
      icases Hr with ⟨%h, HSI⟩
      icombine HSI Hb0 gives %hb
      imodintro
      isplitr
      · ipureintro
        exact ⟨h, by simpa using hb⟩
      iexact HSI)
    (hQ := fun s h hs => ⟨fun c =>
        ⟨((h c).1 _ (mem_hostBufs main_arg0 rfl)).trans ((V₂_other m c _ (by decide)).trans (V_main_arg0 m c)),
          ((h c).1 _ (mem_hostBufs main_arg1 rfl)).trans ((V₂_other m c _ (by decide)).trans (V_main_arg1 m c)),
          ((h c).1 _ (mem_hostBufs main_arg2 rfl)).trans ((V₂_other m c _ (by decide)).trans (V_main_arg2 m c)),
          ((h c).1 _ (mem_hostBufs main_v4 rfl)).trans (V₂_result m c)⟩,
      sem_eq_zero hs fun c sm hsm => by
        obtain rfl := unscoped_only sm hsm
        exact (h c).2⟩)

end Cert.KernelIdeal.Norm
-- ==== Proof.Frames.lean ====
/-
  The runs end, leave the arguments and the counters as they were: the kernel at the machine's floats and at the ideal
  ones, and the reference.
-/
module

public import proofs.«01_k».proof.Defs
public import proofs.«01_k».proof.Proof.Gen.Kernel
public import proofs.«01_k».proof.Proof.Gen.ReferenceIdeal.Run
public import proofs.«01_k».proof.Proof.Launch
public import Idealize.ShloMosaic.Lib.Quiescent

@[expose] public section

noncomputable section

namespace Cert.Proof

open Idealize.ShloMosaic Idealize.ShloMosaic.TcCoe Idealize.SL.Sem

section

open Cert.KernelIdeal

/-- The kernel over any float values: its arguments unchanged, its counters at zero. -/
theorem frame_any {F : FTy → Type} [FloatOps F] (m : (ℓ : Loc nD τ sig) → Buf (Elt F) ℓ) (ρ : Dev nD → PrngReg) :
    θ_run (defs (F := F)) (onTc (τ := τ) (main (F := F))) ⟨m, fun _ => 0, ρ⟩ fun r =>
      (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)) ∧ r.2.sem = fun _ => 0 :=
  (θ_run defs _ _).mono (fun _ h => ⟨fun c => ⟨(h.1 c).1, (h.1 c).2.1, (h.1 c).2.2.1⟩, h.2⟩)
    (Cert.KernelIdeal.Norm.run_main (F := F) m ρ)

end

/-- The two programs' tables of kernel bodies are one table: they have one text. -/
theorem bodies_same : Cert.Kernel.defs₀ (F := Bits) = Cert.KernelIdeal.defs₀ (F := Bits) := by
  unfold Cert.Kernel.defs₀ Cert.KernelIdeal.defs₀
  refine congrArg Defs.onTc (funext fun l => ?_)
  match l with
  | 0 => rfl

/-- So are their tables of labels. -/
theorem defs_same : Cert.Kernel.defs (F := Bits) = Cert.KernelIdeal.defs (F := Bits) :=
  congrArg (Pipeline.defs Cert.Kernel.pcfgs) bodies_same

/-- The kernel at the machine's floats: its text is the ideal program's, so the ideal program's run is its run. -/
theorem frame_kernel : Cert.quiescent_Kernel (hKernel := Cert.Kernel.Gen.facts) := fun m ρ _ => by
  rw [defs_same]
  exact frame_any (F := Bits) m ρ

/-- The kernel at the ideal floats. -/
theorem frame_ideal : Cert.quiescent_KernelIdeal (hKernelIdeal := Cert.KernelIdeal.Gen.facts) := fun m ρ _ => frame_any (F := Ideal) m ρ

/-- The reference; it has no counters. -/
theorem frame_reference : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Proof
-- ==== Proof.Value.lean ====
/-
  What the kernel computes over the extended reals, element by element.
-/
module

public import proofs.«01_k».proof.Proof.Region
public import Idealize.ShloMosaic.Lib.Pointwise
public import Idealize.ShloMosaic.Lib.StableHlo.Run

@[expose] public section

noncomputable section

namespace Cert.KernelIdeal.Norm

open Idealize.ShloMosaic Idealize.ShloMosaic.TcCoe Idealize.SL.Sem
open Cert.KernelIdeal.Gen

variable (X : Dev nD → S1024x512.Idx → EReal)

/-! ## The statistics -/

/-- The sum of row r over all devices' columns, -/
def rowSum (r : Fin 1024) : EReal := ∑ d : Fin 4, ∑ k : Fin 512, X d (ix2 r k)
/-- and of its squares. -/
def rowSquares (r : Fin 1024) : EReal := ∑ d : Fin 4, ∑ k : Fin 512, X d (ix2 r k) * X d (ix2 r k)

/-- The first statistic that device d sends of a row is the sum of its own columns. -/
theorem stats_sum (ch : Fin 2) (d : Fin 4) (y : Fin 512) :
    stats (F := Ideal) X (ValueIdx.ix4 ch d (0 : Fin 2) y) = ∑ k : Fin 512, X d (ix2 ⟨512 * ch.val + y.val, by omega⟩ k) := by
  pointwise [stats, k0_pay2, k0_pay1, rows]
  rfl

/-- The second is the sum of their squares. -/
theorem stats_squares (ch : Fin 2) (d : Fin 4) (y : Fin 512) :
    stats (F := Ideal) X (ValueIdx.ix4 ch d (1 : Fin 2) y)
      = ∑ k : Fin 512, X d (ix2 ⟨512 * ch.val + y.val, by omega⟩ k) * X d (ix2 ⟨512 * ch.val + y.val, by omega⟩ k) := by
  pointwise [stats, k0_pay2, k0_pay1, rows]
  rfl

/-! ## The result -/

/-- The mean that the kernel takes of row r, -/
def rowMean (r : Fin 1024) : EReal := rowSum X r * Ideal.ofBits .f32 0x3A000000#32
/-- and its variance. -/
def rowVar (r : Fin 1024) : EReal := rowSquares X r * Ideal.ofBits .f32 0x3A000000#32 - rowMean X r * rowMean X r

/-- One chunk's block at an index. -/
theorem block_apply (ch : Fin 2) (x : S1024x512.Idx → EReal) (G : S2x512.Idx → EReal) (r j : Fin 512) (q : Fin 1024) (hq : q.val = 512 * ch.val + r.val) :
    block (F := Ideal) X ch x G (ix2 r j)
      = (x (ix2 q j) - rowMean X q) * Ideal.rsqrt (rowVar X q + Ideal.ofBits .f32 0x3727C5AC#32) * G (ix2 0 j) + G (ix2 1 j) := by
  have hlt : 512 * ch.val + r.val < 1024 := hq ▸ q.isLt
  obtain rfl : ⟨512 * ch.val + r.val, hlt⟩ = q := Fin.ext hq.symm
  pointwise [block, k0_pay11, k0_pay4, k0_pay5, k0_pay9, k0_pay8, k0_pay10, k0_pay7, k0_pay6, chunkStats, gbRow, rows]
  simp only [stats_sum, stats_squares]
  rfl

/-- The kernel's result at an index. -/
theorem result_apply (x : S1024x512.Idx → EReal) (G : S2x512.Idx → EReal) (i : S1024x512.Idx) :
    result (F := Ideal) X x G i
      = (x i - rowMean X (i 0)) * Ideal.rsqrt (rowVar X (i 0) + Ideal.ofBits .f32 0x3727C5AC#32) * G (ix2 0 (i 1)) + G (ix2 1 (i 1)) := by
  have h : (ix2 (i 0) (i 1) : S1024x512.Idx) = i := by funext a; fin_cases a <;> rfl
  refine (block_apply X _ x G _ _ (i 0) ?_).trans (by rw [h])
  show (i 0).val = 512 * ((i 0).val / 512) + (i 0).val % 512
  omega

/-! ## What the host hands to it -/

variable (m : (ℓ : Loc nD τ sig) → Buf (Elt Ideal) ℓ) (c : Dev nD)

/-- The arguments on device c. -/
def argX (c : Dev nD) : S1024x512.Idx → EReal := m ((c : Thread nD τ).loc main_arg0)
/-- Device c's block of gamma, -/
def argGamma (c : Dev nD) : S512.Idx → EReal := m ((c : Thread nD τ).loc main_arg1)
/-- and of beta. -/
def argBeta (c : Dev nD) : S512.Idx → EReal := m ((c : Thread nD τ).loc main_arg2)

/-- The kernel finds x as launched. -/
theorem blockX_eq : blockX m c = argX m c := Gen.V_main_arg0 m c

/-- The stacked rows: gamma above beta. -/
theorem blockG_eq : blockG m c
    = concatenate S2x512 0 [⟨S1x512, broadcastInDim S1x512 ![1] bcast_S512_S1x512_1 (argGamma m c)⟩,
        ⟨S1x512, broadcastInDim S1x512 ![1] bcast_S512_S1x512_1 (argBeta m c)⟩] concatenates_S1x512_S1x512_S2x512_d0 := by
  unfold blockG V₁
  simp only [hostOps0]
  after_results_simp
  rfl

/-- Row 0 of the stack is gamma, -/
theorem blockG_gamma (j : Fin 512) : blockG m c (ix2 0 j) = argGamma m c (ix1 j) := by
  rw [blockG_eq]
  pointwise

/-- row 1 is beta. -/
theorem blockG_beta (j : Fin 512) : blockG m c (ix2 1 j) = argBeta m c (ix1 j) := by
  rw [blockG_eq]
  pointwise

/-- Device c's result, from the arguments of all devices. -/
theorem out_apply (i : S1024x512.Idx) :
    out m c i = (argX m c i - rowMean (argX m) (i 0)) * Ideal.rsqrt (rowVar (argX m) (i 0) + Ideal.ofBits .f32 0x3727C5AC#32)
        * argGamma m c (ix1 (i 1)) + argBeta m c (ix1 (i 1)) := by
  have hX : blockX m = argX m := funext (blockX_eq m)
  unfold out
  rw [hX]
  refine (result_apply _ _ _ i).trans ?_
  exact congrArg₂ (fun a b => _ * a + b) (blockG_gamma m c (i 1)) (blockG_beta m c (i 1))

end Cert.KernelIdeal.Norm

end
-- ==== Proof.Reals.lean ====
/-
  The mathematics of one row: its mean and variance from the sums of its entries and of their squares, and the two ways
  of dividing by the root of the variance.
-/
module

public import Idealize.ShloMosaic.PureOps.Ideal
public import Idealize.ShloMosaic.Lib.Pointwise

@[expose] public section

noncomputable section

namespace Cert.Norm

open Idealize.ShloMosaic

/-! ## The constants -/

/-- The word of 2048, the number of columns. -/
theorem columns : Ideal.ofBits .f32 0x45000000#32 = ((2048 : ℝ) : EReal) := by
  simp [Ideal.ofBits, Ideal.ieee, -EReal.coe_mul]
  norm_num

/-- The word of 1/2048. -/
theorem columns_inv : Ideal.ofBits .f32 0x3A000000#32 = ((1 / 2048 : ℝ) : EReal) := by
  simp [Ideal.ofBits, Ideal.ieee, -EReal.coe_mul]
  norm_num

/-- The word added to the variance is a positive real. -/
theorem eps : ∃ e : ℝ, 0 < e ∧ Ideal.ofBits .f32 0x3727C5AC#32 = (e : EReal) := by
  refine ⟨_, ?_, by simp [Ideal.ofBits, Ideal.ieee, -EReal.coe_mul]; rfl⟩
  norm_num

/-- The word of +∞. -/
theorem infinity : Ideal.ofBits .f32 0x7F800000#32 = ⊤ := by
  simp [Ideal.ofBits, Ideal.ieee]

/-! ## Sums of a row -/

/-- A sum of real numbers is a real number. -/
theorem coe_sum {ι : Type} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- The sum over all columns is the sum over the devices of the sums over each device's columns. -/
theorem sum_devices {M : Type} [AddCommMonoid M] (f : Fin 2048 → M) :
    ∑ k, f k = ∑ d : Fin 4, ∑ k : Fin 512, f ⟨512 * d.val + k.val, by omega⟩ := by
  rw [← Fintype.sum_prod_type', ← Equiv.sum_comp (finProdFinEquiv (m := 4) (n := 512))]
  refine Finset.sum_congr rfl fun p _ => congrArg f (Fin.ext ?_)
  show p.2.val + 512 * p.1.val = 512 * p.1.val + p.2.val
  exact Nat.add_comm _ _

/-- The mean of the squares less the square of the mean is the mean square distance from the mean. -/
theorem mean_square_distance (f : Fin 2048 → ℝ) :
    (∑ k, f k * f k) * (1 / 2048) - (∑ k, f k) * (1 / 2048) * ((∑ k, f k) * (1 / 2048))
      = (∑ k, (f k - (∑ k, f k) * (1 / 2048)) * (f k - (∑ k, f k) * (1 / 2048))) * (1 / 2048) := by
  generalize hμ : (∑ k, f k) * (1 / 2048) = μ
  have hs : ∑ k, f k = 2048 * μ := by rw [← hμ]; linarith
  have h : ∑ k, (f k - μ) * (f k - μ) = (∑ k, f k * f k) - 2 * μ * (∑ k, f k) + 2048 * (μ * μ) := by
    have he : ∀ k, (f k - μ) * (f k - μ) = f k * f k - 2 * μ * f k + μ * μ := fun k => by linarith
    rw [Finset.sum_congr rfl fun k _ => he k, Finset.sum_add_distrib, Finset.sum_sub_distrib, ← Finset.mul_sum,
      Finset.sum_const, Finset.card_univ, Fintype.card_fin, nsmul_eq_mul]
    norm_num
  rw [h, hs]
  linarith

/-- Multiplying by the reciprocal of the root and then by g is dividing g times the value by the root, whatever g is. -/
theorem scaled (t w : ℝ) (hw : 0 < w) (g : EReal) :
    (t : EReal) * Ideal.rsqrt w * g = Ideal.div (g * t) (Ideal.sqrt w) := by
  have hr : 0 < Real.sqrt w := Real.sqrt_pos.mpr hw
  rw [Ideal.rsqrt_coe, if_neg (not_lt.mpr hw.le), if_neg hw.ne', Ideal.sqrt_coe, if_neg (not_lt.mpr hw.le), Ideal.div,
    if_neg (by exact_mod_cast hr.ne'), mul_comm, mul_assoc, EReal.coe_inv]

end Cert.Norm

end
-- ==== Proof.Reference.lean ====
/-
  What the reference computes over the extended reals, element by element.
-/
module

public import proofs.«01_k».proof.Proof.Gen.ReferenceIdeal.Run
public import proofs.«01_k».proof.Proof.Reals

@[expose] public section

noncomputable section

namespace Cert.ReferenceIdeal.Norm

open Idealize.ShloMosaic Idealize.ShloMosaic.TcCoe Idealize.SL.Sem
open Cert.ReferenceIdeal.Gen

/-- The mean of row r. -/
def mean (x : S1024x2048.Idx → EReal) (r : Fin 1024) : EReal :=
  Ideal.div (∑ k : Fin 2048, x (ix2 r k)) (Ideal.ofBits .f32 0x45000000#32)

/-- The mean square distance of row r from its mean. -/
def variance (x : S1024x2048.Idx → EReal) (r : Fin 1024) : EReal :=
  Ideal.div (∑ k : Fin 2048, (x (ix2 r k) - mean x r) * (x (ix2 r k) - mean x r)) (Ideal.ofBits .f32 0x45000000#32)

/-- The normalized array, scaled and shifted by column. -/
def norm (x : S1024x2048.Idx → EReal) (g b : S2048.Idx → EReal) (i : S1024x2048.Idx) : EReal :=
  Ideal.div (g (ix1 (i 1)) * (x i - mean x (i 0))) (Ideal.sqrt (variance x (i 0) + Ideal.ofBits .f32 0x3727C5AC#32)) + b (ix1 (i 1))

/-- The number of columns, as the reference writes it, is 2048, and is positive. -/
theorem columns_less : Ideal.ofBits .f32 0x45000000#32 - FloatOps.sitofp (F := Ideal) .f32 0#32 = Ideal.ofBits .f32 0x45000000#32 := by
  show Ideal.ofBits .f32 0x45000000#32 - (((0#32 : BitVec 32).toInt : ℝ) : EReal) = _
  simp

/-- The number of columns is positive. -/
theorem columns_pos : (0 : EReal) < Ideal.ofBits .f32 0x45000000#32 := by
  rw [Cert.Norm.columns]
  exact_mod_cast (by norm_num : (0 : ℝ) < 2048)

/-- The reference ends with the normalized array in its result and its arguments unchanged. -/
theorem run_norm (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v21) = norm (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun r h c => ⟨(h c).1.trans ?_, (h c).2⟩) (Cert.ReferenceIdeal.Value.run (F := Ideal) m ρ)
  generalize m ((c.tc : Thread nD τ).loc main_arg0) = x
  generalize m ((c.tc : Thread nD τ).loc main_arg1) = g
  generalize m ((c.tc : Thread nD τ).loc main_arg2) = b
  funext i
  pointwise [norm, mean, variance]
  rw [columns_less, if_pos columns_pos]

end Cert.ReferenceIdeal.Norm

end
-- ==== Proof.Equation.lean ====
/-
  The kernel's result on device c is block c of the reference's, where the entries of x are real numbers.
-/
module

public import proofs.«01_k».proof.Proof.Value
public import proofs.«01_k».proof.Proof.Reference

@[expose] public section

noncomputable section

namespace Cert.Norm

open Idealize.ShloMosaic

/-- The column of the whole array that column k of device d's block is. -/
def col (d : Fin 4) (k : Fin 512) : Fin 2048 := ⟨512 * d.val + k.val, by omega⟩

/-- The mean of a row of real numbers. -/
def realMean (f : Fin 2048 → ℝ) : ℝ := (∑ k, f k) * (1 / 2048)
/-- The mean square distance of a row of real numbers from its mean; -/
def realVar (f : Fin 2048 → ℝ) : ℝ := (∑ k, (f k - realMean f) * (f k - realMean f)) * (1 / 2048)

/-- it is not negative. -/
theorem realVar_nonneg (f : Fin 2048 → ℝ) : 0 ≤ realVar f :=
  mul_nonneg (Finset.sum_nonneg fun _ _ => mul_self_nonneg _) (by norm_num)

/-- Dividing a real number by the number of columns. -/
theorem div_columns (a : ℝ) : Ideal.div (a : EReal) (Ideal.ofBits .f32 0x45000000#32) = ((a * (1 / 2048) : ℝ) : EReal) := by
  rw [columns, Ideal.div, if_neg (by exact_mod_cast (by norm_num : (2048 : ℝ) ≠ 0)), ← EReal.coe_inv, ← EReal.coe_mul]
  norm_num

variable (x : (⟨2, ![1024, 2048]⟩ : Shape).Idx → EReal) (X : Fin 4 → (⟨2, ![1024, 512]⟩ : Shape).Idx → EReal) (r : Fin 1024) (f : Fin 2048 → ℝ)

section Reference

variable (hf : ∀ k, x (ix2 r k) = (f k : EReal))
include hf

/-- The reference's mean of a row of real numbers, -/
theorem reference_mean : ReferenceIdeal.Norm.mean x r = (realMean f : EReal) := by
  unfold ReferenceIdeal.Norm.mean
  rw [Finset.sum_congr rfl fun k _ => hf k, ← coe_sum, div_columns]
  rfl

/-- and its variance. -/
theorem reference_variance : ReferenceIdeal.Norm.variance x r = (realVar f : EReal) := by
  unfold ReferenceIdeal.Norm.variance
  rw [reference_mean x r f hf, Finset.sum_congr rfl (g := fun k => (((f k - realMean f) * (f k - realMean f) : ℝ) : EReal)) fun k _ => by
    rw [hf k, EReal.coe_mul, EReal.coe_sub], ← coe_sum, div_columns]
  rfl

end Reference

section Kernel

variable (hf : ∀ d k, X d (ix2 r k) = (f (col d k) : EReal))
include hf

/-- The kernel's sum of a row of real numbers, -/
theorem kernel_sum : KernelIdeal.Norm.rowSum X r = ((∑ k, f k : ℝ) : EReal) := by
  unfold KernelIdeal.Norm.rowSum
  rw [coe_sum, sum_devices]
  exact Finset.sum_congr rfl fun d _ => Finset.sum_congr rfl fun k _ => hf d k

/-- its sum of squares, -/
theorem kernel_squares : KernelIdeal.Norm.rowSquares X r = ((∑ k, f k * f k : ℝ) : EReal) := by
  unfold KernelIdeal.Norm.rowSquares
  rw [coe_sum, sum_devices]
  exact Finset.sum_congr rfl fun d _ => Finset.sum_congr rfl fun k _ => by rw [hf d k, EReal.coe_mul]; rfl

/-- its mean, the reference's, -/
theorem kernel_mean : KernelIdeal.Norm.rowMean X r = (realMean f : EReal) := by
  unfold KernelIdeal.Norm.rowMean
  rw [kernel_sum X r f hf, columns_inv, ← EReal.coe_mul]
  rfl

/-- and its variance, the reference's too. -/
theorem kernel_variance : KernelIdeal.Norm.rowVar X r = (realVar f : EReal) := by
  unfold KernelIdeal.Norm.rowVar
  rw [kernel_mean X r f hf, kernel_squares X r f hf, columns_inv, ← EReal.coe_mul, ← EReal.coe_mul, ← EReal.coe_sub]
  exact congrArg _ (mean_square_distance f)

end Kernel

/-- One element: normalized, scaled and shifted as the kernel does it and as the reference does. -/
theorem element (d : Fin 4) (k : Fin 512) (hx : ∀ k, x (ix2 r k) = (f k : EReal)) (hX : ∀ d k, X d (ix2 r k) = (f (col d k) : EReal)) (g b : EReal) :
    (X d (ix2 r k) - KernelIdeal.Norm.rowMean X r) * Ideal.rsqrt (KernelIdeal.Norm.rowVar X r + Ideal.ofBits .f32 0x3727C5AC#32) * g + b
      = Ideal.div (g * (x (ix2 r (col d k)) - ReferenceIdeal.Norm.mean x r))
          (Ideal.sqrt (ReferenceIdeal.Norm.variance x r + Ideal.ofBits .f32 0x3727C5AC#32)) + b := by
  obtain ⟨e, he, hw⟩ := eps
  rw [reference_mean x r f hx, reference_variance x r f hx, kernel_mean X r f hX, kernel_variance X r f hX, hX, hx, hw,
    ← EReal.coe_sub, ← EReal.coe_add]
  exact congrArg (· + b) (scaled _ _ (add_pos_of_nonneg_of_pos (realVar_nonneg f) he) g)

end Cert.Norm

end
-- ==== Proof.Algebraic.lean ====
/-
  The kernel over the extended reals computes the reference's normalization, where the entries of x are finite.
-/
module

public import proofs.«01_k».proof.Defs
public import proofs.«01_k».proof.Proof.Launch
public import proofs.«01_k».proof.Proof.Equation
public import Idealize.ShloMosaic.Lib.Layout

@[expose] public section

noncomputable section

namespace Cert.Proof

open Idealize.ShloMosaic Idealize.ShloMosaic.TcCoe Idealize.SL.Sem

/-- The shape relations that the precondition states of one device's blocks hold, -/
theorem pre_kernel_facts : Cert.Pre_finite_KernelIdeal.Facts := ⟨by decide, by decide⟩
/-- and of the whole arrays. -/
theorem pre_reference_facts : Cert.Pre_finite_ReferenceIdeal.Facts := ⟨by decide, by decide⟩

/-- The precondition says that every entry of a device's block of x is a real number. -/
theorem real_of_finite [Cert.Pre_finite_KernelIdeal.Facts] (x : (⟨2, ![1024, 512]⟩ : Shape).Idx → EReal) (g b : (⟨1, ![512]⟩ : Shape).Idx → EReal)
    (h : Cert.Pre_finite_KernelIdeal.fn (F := Ideal) x g b = fun _ => 1#1) (i : (⟨2, ![1024, 512]⟩ : Shape).Idx) :
    ∃ a : ℝ, x i = (a : EReal) := by
  have hi := congrFun h i
  pointwise [Cert.Pre_finite_KernelIdeal.fn] at hi
  have hb : ∀ p : Bool, BitVec.ofBool p = 1#1 → p = true := by decide
  have hlt : max (x i) (-(x i)) < (⊤ : EReal) := Cert.Norm.infinity ▸ of_decide_eq_true (hb _ hi)
  have h1 : x i ≠ ⊤ := fun e => absurd (e ▸ (max_lt_iff.mp hlt).1) (lt_irrefl _)
  have h2 : x i ≠ ⊥ := fun e => absurd ((max_lt_iff.mp hlt).2) (by rw [e, EReal.neg_bot]; exact lt_irrefl _)
  exact ⟨(x i).toReal, (EReal.coe_toReal h1 h2).symm⟩

section Blocks

open Cert.Norm

/-- Where element (r, k) of device d's block of a matrix cut along its columns lies in the whole matrix, -/
theorem block_col (d : Fin 4) (v : (⟨2, ![1024, 2048]⟩ : Shape).Idx → EReal) (r : Fin 1024) (k : Fin 512) :
    Layout.block ⟨2, ![1024, 512]⟩ ⟨2, ![1024, 2048]⟩ 1 4 d v (by decide) (ix2 r k) = v (ix2 r (col d k)) := by
  refine congrArg v (funext fun a => Fin.ext ?_)
  fin_cases a
  · rfl
  · exact congrArg (· + k.val) (Nat.mul_comm d.val 512)

/-- and element k of its block of a row. -/
theorem block_entry (d : Fin 4) (v : (⟨1, ![2048]⟩ : Shape).Idx → EReal) (k : Fin 512) :
    Layout.block ⟨1, ![512]⟩ ⟨1, ![2048]⟩ 0 4 d v (by decide) (ix1 k) = v (ix1 (col d k)) := by
  refine congrArg v (funext fun a => Fin.ext ?_)
  fin_cases a
  exact congrArg (· + k.val) (Nat.mul_comm d.val 512)

/-- Every column of the whole matrix is a column of some device's block. -/
theorem exists_col (j : Fin 2048) : ∃ d k, col d k = j :=
  ⟨⟨j.val / 512, by omega⟩, ⟨j.val % 512, Nat.mod_lt _ (by decide)⟩, Fin.ext (Nat.div_add_mod _ _)⟩

end Blocks

open Cert.KernelIdeal.Norm in
/-- The kernel's result on device c is block c of the normalized array. -/
theorem out_block [Cert.Pre_finite_KernelIdeal.Facts]
    (m : (ℓ : Loc Cert.KernelIdeal.nD Cert.KernelIdeal.τ Cert.KernelIdeal.sig) → Buf (Elt Ideal) ℓ)
    (x : (⟨2, ![1024, 2048]⟩ : Shape).Idx → EReal) (g b : (⟨1, ![2048]⟩ : Shape).Idx → EReal)
    (hfin : ∀ c, Cert.Pre_finite_KernelIdeal.fn (F := Ideal) (argX m c) (argGamma m c) (argBeta m c) = fun _ => 1#1)
    (hx : ∀ c, argX m c = Layout.block ⟨2, ![1024, 512]⟩ ⟨2, ![1024, 2048]⟩ 1 4 c x)
    (hg : ∀ c, argGamma m c = Layout.block ⟨1, ![512]⟩ ⟨1, ![2048]⟩ 0 4 c g)
    (hb : ∀ c, argBeta m c = Layout.block ⟨1, ![512]⟩ ⟨1, ![2048]⟩ 0 4 c b) (c : Fin 4) :
    out m c = Layout.block ⟨2, ![1024, 512]⟩ ⟨2, ![1024, 2048]⟩ 1 4 c (Cert.ReferenceIdeal.Norm.norm x g b) := by
  have hX : ∀ (d : Fin 4) (r : Fin 1024) (k : Fin 512), argX m d (ix2 r k) = x (ix2 r (Cert.Norm.col d k)) :=
    fun d r k => (congrFun (hx d) _).trans (block_col d x r k)
  have hreal : ∀ (r : Fin 1024) (j : Fin 2048), ∃ a : ℝ, x (ix2 r j) = (a : EReal) := fun r j => by
    obtain ⟨d, k, rfl⟩ := exists_col j
    rw [← hX]
    exact real_of_finite _ _ _ (hfin d) _
  choose f hf using hreal
  have key : ∀ (r : Fin 1024) (k : Fin 512), out m c (ix2 r k) = Cert.ReferenceIdeal.Norm.norm x g b (ix2 r (Cert.Norm.col c k)) := fun r k => by
    refine (out_apply m c (ix2 r k)).trans ?_
    refine (congrArg₂ (fun s t : EReal => _ * s + t) ((congrFun (hg c) _).trans (block_entry c g k))
      ((congrFun (hb c) _).trans (block_entry c b k))).trans ?_
    exact Cert.Norm.element x (argX m) r (f r) c k (hf r) (fun d k => (hX d r k).trans (hf r _)) _ _
  funext i
  have hi : (ix2 (i 0) (i 1) : (⟨2, ![1024, 512]⟩ : Shape).Idx) = i := by funext a; fin_cases a <;> rfl
  rw [← hi]
  exact (key (i 0) (i 1)).trans (block_col c _ (i 0) (i 1)).symm

/-- Kernel and reference compute the same function over the extended reals, where the entries of x are finite. -/
theorem algebraic : Cert.algebraic_KernelIdeal_ReferenceIdeal_pre_finite_KernelIdeal (hKernelIdeal := Cert.KernelIdeal.Gen.facts)
    (hReferenceIdeal := Cert.ReferenceIdeal.Gen.facts) (hPre_finite_KernelIdeal := pre_kernel_facts) := fun m ρ m' ρ' hpre hagree => by
  haveI := pre_kernel_facts
  refine ⟨Cert.ReferenceIdeal.Norm.norm (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1))
    (m' (((0 : Dev Cert.ReferenceIdeal.nD).tc : Thread Cert.ReferenceIdeal.nD Cert.ReferenceIdeal.τ).loc Cert.ReferenceIdeal.main_arg2)), ?_, ?_⟩
  · refine (θ_run Cert.KernelIdeal.defs _ _).mono (fun r h c => ?_) (Cert.KernelIdeal.Norm.run_main (F := Ideal) m ρ)
    obtain ⟨h0, h1, h2, h4⟩ := h.1 c
    exact ⟨h4.trans (out_block m _ _ _ hpre (fun c => (hagree c).1) (fun c => (hagree c).2.1) (fun c => (hagree c).2.2) c), h0, h1, h2⟩
  · exact (θ_run Cert.ReferenceIdeal.defs _ _).mono (fun r h => h 0) (Cert.ReferenceIdeal.Norm.run_norm m' ρ')

end Cert.Proof

end
-- ==== Proof.lean ====
/-
  The claim: the frames of the kernel, of the kernel over the extended reals and of the reference, `preserves`, and
  `algebraic`. The proofs are in the modules under Proof/.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem Cert.Kernel

/-- The programs' facts, the frames (those under the precondition are the same, its hypothesis dropped), and the value claim. -/
theorem claim : Cert.Claim := ⟨Cert.Kernel.Gen.facts, Cert.KernelIdeal.Gen.facts, Cert.ReferenceIdeal.Gen.facts,
  pre_kernel_facts, pre_reference_facts,
  frame_kernel, frame_ideal, fun m ρ _ => frame_ideal m ρ trivial, frame_reference, fun m ρ _ => frame_reference m ρ trivial,
  trivial, algebraic⟩

end Cert.Proof

end
